-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_cst_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S64x4096 : Shape := ⟨2, ![64, 4096]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  bcast_S_S64x4096 : S_.BroadcastsInDim S64x4096 (![] : Fin 0 → Fin S64x4096.rank)
  bcast_S_S64 : S_.BroadcastsInDim S64 (![] : Fin 0 → Fin S64.rank)

variable [Facts]

def fn {F : FTy → Type} [FloatOps F] (main_arg0 : FVec F S4x4096x4096 .f32) (main_arg1 : FVec F S64x4096 .f32) (main_arg2 : FVec F S64 .f32) : IVec S4x4096x4096 1 × IVec S64x4096 1 × IVec S64 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Kernel.lean ====
abbrev S4x4096x4096 : Shape := ⟨3, ![4, 4096, 4096]⟩
abbrev S64x4096 : Shape := ⟨2, ![64, 4096]⟩
abbrev S64 : Shape := ⟨1, ![64]⟩
abbrev S16384x4096 : Shape := ⟨2, ![16384, 4096]⟩
abbrev S4096x64 : Shape := ⟨2, ![4096, 64]⟩
abbrev S1x64 : Shape := ⟨2, ![1, 64]⟩
abbrev S32x1x512 : Shape := ⟨3, ![32, 1, 512]⟩
abbrev S4x4096 : Shape := ⟨2, ![4, 4096]⟩
abbrev S_ : Shape := ⟨0, ![]⟩
abbrev S3x512x4096 : Shape := ⟨3, ![3, 512, 4096]⟩
abbrev S3 : Shape := ⟨1, ![3]⟩
abbrev S2x1x1x512 : Shape := ⟨4, ![2, 1, 1, 512]⟩
abbrev S2 : Shape := ⟨1, ![2]⟩
abbrev S1 : Shape := ⟨1, ![1]⟩
abbrev S1x512x4096 : Shape := ⟨3, ![1, 512, 4096]⟩
abbrev S512x4096 : Shape := ⟨2, ![512, 4096]⟩
abbrev S512x64 : Shape := ⟨2, ![512, 64]⟩
abbrev S64x512 : Shape := ⟨2, ![64, 512]⟩
abbrev S512 : Shape := ⟨1, ![512]⟩
abbrev S1x512 : Shape := ⟨2, ![1, 512]⟩
abbrev S1x1x1x512 : Shape := ⟨4, ![1, 1, 1, 512]⟩
abbrev S1x1x512 : Shape := ⟨3, ![1, 1, 512]⟩

abbrev nBuf : Space → Nat
  | .hbm => 11
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S64, .f32⟩
  | .hbm, ⟨3, _⟩ => ⟨S16384x4096, .f32⟩
  | .hbm, ⟨4, _⟩ => ⟨S4096x64, .f32⟩
  | .hbm, ⟨5, _⟩ => ⟨S1x64, .f32⟩
  | .hbm, ⟨6, _⟩ => ⟨S32x1x512, .i32⟩
  | .hbm, ⟨7, _⟩ => ⟨S32x1x512, .f32⟩
  | .hbm, ⟨8, _⟩ => ⟨S4x4096, .i32⟩
  | .hbm, ⟨9, _⟩ => ⟨S4x4096, .f32⟩
  | .hbm, ⟨10, _⟩ => ⟨S_, .f32⟩
  | .local _ .vmem, ⟨0, _⟩ => ⟨S4096x64, .f32⟩
  | .local _ .vmem, ⟨1, _⟩ => ⟨S1x64, .f32⟩
  | .local _ .vmem, ⟨2, _⟩ => ⟨S3x512x4096, .f32⟩
  | .local _ .vmem, ⟨3, _⟩ => ⟨S2x1x1x512, .i32⟩
  | .local _ .vmem, ⟨4, _⟩ => ⟨S2x1x1x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_18_r0 : BitVec 32 := 0#32
  let c3_i32_r0 : BitVec 32 := 3#32
  let v21_r0 : BitVec 32 := Scalar.remui c0_i32_18_r0 c3_i32_r0
  ![v21_r0.toNat]
def k0_off2 : Fin 3 → Nat :=
  let c0_i32_18_r0 : BitVec 32 := 0#32
  let c3_i32_r0 : BitVec 32 := 3#32
  let v21_r0 : BitVec 32 := Scalar.remui c0_i32_18_r0 c3_i32_r0
  let c0_i32_19_r0 : BitVec 32 := 0#32
  let c0_i32_20_r0 : BitVec 32 := 0#32
  ![v21_r0.toNat, 0, 0]
def k0_cond1 : BitVec 1 :=
  let true_26_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_25_r0 : BitVec 32 := 0#32
  let v28_r0 : BitVec 1 := Scalar.cmpi .ne v10_r0 c0_i32_25_r0
  let v29_r0 : BitVec 1 := Scalar.andi true_26_r0 v28_r0
  let true_27_r0 : BitVec 1 := 1#1
  let v30_r0 : BitVec 1 := Scalar.andi v29_r0 true_27_r0
  let v31_r0 : BitVec 32 := Scalar.extui v30_r0
  let c0_i32_28_r0 : BitVec 32 := 0#32
  let v32_r0 : BitVec 1 := Scalar.cmpi .ne v31_r0 c0_i32_28_r0
  v32_r0

def k0_off3 : Fin 1 → Nat :=
  let c0_i32_23_r0 : BitVec 32 := 0#32
  let c1_i32_24_r0 : BitVec 32 := 1#32
  let v27_r0 : BitVec 32 := Scalar.addi c0_i32_23_r0 c1_i32_24_r0
  let c3_i32_78_r0 : BitVec 32 := 3#32
  let v76_r0 : BitVec 32 := Scalar.remui v27_r0 c3_i32_78_r0
  ![v76_r0.toNat]
def k0_off4 : Fin 3 → Nat :=
  let c0_i32_23_r0 : BitVec 32 := 0#32
  let c1_i32_24_r0 : BitVec 32 := 1#32
  let v27_r0 : BitVec 32 := Scalar.addi c0_i32_23_r0 c1_i32_24_r0
  let c3_i32_78_r0 : BitVec 32 := 3#32
  let v76_r0 : BitVec 32 := Scalar.remui v27_r0 c3_i32_78_r0
  let c0_i32_79_r0 : BitVec 32 := 0#32
  let c0_i32_80_r0 : BitVec 32 := 0#32
  ![v76_r0.toNat, 0, 0]
def k0_off5 : Fin 2 → Nat :=
  let c512_i32_r0 : BitVec 32 := 512#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v77_r0 : BitVec 32 := Scalar.muli c512_i32_r0 v10_r0
  let c0_i32_81_r0 : BitVec 32 := 0#32
  ![v77_r0.toNat, 0]
@[reducible] def k0_t1_loop : Scf.Loop 32 :=
  let c0_i32_36_r0 : BitVec 32 := 0#32
  let c32_i32_37_r0 : BitVec 32 := 32#32
  let v35_r0 : BitVec 32 := Scalar.addi c0_i32_36_r0 c32_i32_37_r0
  let c1_i32_38_r0 : BitVec 32 := 1#32
  ⟨c0_i32_36_r0, v35_r0, c1_i32_38_r0⟩
def k0_off6 (arg6_r0 : BitVec 32) : Fin 1 → Nat :=
  let c3_i32_163_r0 : BitVec 32 := 3#32
  let v223_r0 : BitVec 32 := Scalar.remui arg6_r0 c3_i32_163_r0
  ![v223_r0.toNat]
def k0_cond2 (k0_t1 : Fin k0_t1_loop.trips) (arg12_r0 : BitVec 32) : BitVec 1 :=
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c32_i32_88_r0 : BitVec 32 := 32#32
  let v86_r0 : BitVec 1 := Scalar.cmpi .eq v85_r0 c32_i32_88_r0
  let c0_i32_89_r0 : BitVec 32 := 0#32
  let v87_r0 : BitVec 32 := Scalar.select v86_r0 c0_i32_89_r0 v85_r0
  let c0_i32_90_r0 : BitVec 32 := 0#32
  let v88_r0 : BitVec 32 := Scalar.addi v87_r0 c0_i32_90_r0
  let true_92_r0 : BitVec 1 := 1#1
  let c1_i32_91_r0 : BitVec 32 := 1#32
  let v89_r0 : BitVec 32 := Scalar.addi v87_r0 c1_i32_91_r0
  let v90_r0 : BitVec 32 := Scalar.select true_92_r0 v89_r0 v87_r0
  let c32_i32_93_r0 : BitVec 32 := 32#32
  let v91_r0 : BitVec 1 := Scalar.cmpi .eq v90_r0 c32_i32_93_r0
  let c0_i32_94_r0 : BitVec 32 := 0#32
  let v92_r0 : BitVec 32 := Scalar.select v91_r0 c0_i32_94_r0 v90_r0
  let c0_i32_95_r0 : BitVec 32 := 0#32
  let v93_r0 : BitVec 32 := Scalar.addi v92_r0 c0_i32_95_r0
  let v99_r0 : BitVec 1 := Scalar.cmpi .ne v88_r0 v93_r0
  let c0_i32_36_r0 : BitVec 32 := 0#32
  let c1_i32_38_r0 : BitVec 32 := 1#32
  let arg5_r0 : BitVec 32 := Scf.iv c0_i32_36_r0 c1_i32_38_r0 k0_t1
  let c30_i32_r0 : BitVec 32 := 30#32
  let v100_r0 : BitVec 1 := Scalar.cmpi .sge arg5_r0 c30_i32_r0
  let true_101_r0 : BitVec 1 := 1#1
  let v101_r0 : BitVec 1 := Scalar.xori v100_r0 true_101_r0
  let v102_r0 : BitVec 1 := Scalar.andi v99_r0 v101_r0
  let true_102_r0 : BitVec 1 := 1#1
  let v103_r0 : BitVec 1 := Scalar.andi v102_r0 true_102_r0
  let v104_r0 : BitVec 32 := Scalar.extui v103_r0
  let c0_i32_103_r0 : BitVec 32 := 0#32
  let v105_r0 : BitVec 1 := Scalar.cmpi .ne v104_r0 c0_i32_103_r0
  v105_r0

def k0_off7 (arg6_r0 : BitVec 32) : Fin 3 → Nat :=
  let c3_i32_163_r0 : BitVec 32 := 3#32
  let v223_r0 : BitVec 32 := Scalar.remui arg6_r0 c3_i32_163_r0
  let c0_i32_164_r0 : BitVec 32 := 0#32
  let c0_i32_165_r0 : BitVec 32 := 0#32
  ![v223_r0.toNat, 0, 0]
def k0_off8 (arg12_r0 : BitVec 32) : Fin 2 → Nat :=
  let c512_i32_r0 : BitVec 32 := 512#32
  let true_92_r0 : BitVec 1 := 1#1
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c32_i32_88_r0 : BitVec 32 := 32#32
  let v86_r0 : BitVec 1 := Scalar.cmpi .eq v85_r0 c32_i32_88_r0
  let c0_i32_89_r0 : BitVec 32 := 0#32
  let v87_r0 : BitVec 32 := Scalar.select v86_r0 c0_i32_89_r0 v85_r0
  let c1_i32_91_r0 : BitVec 32 := 1#32
  let v89_r0 : BitVec 32 := Scalar.addi v87_r0 c1_i32_91_r0
  let v90_r0 : BitVec 32 := Scalar.select true_92_r0 v89_r0 v87_r0
  let c32_i32_93_r0 : BitVec 32 := 32#32
  let v91_r0 : BitVec 1 := Scalar.cmpi .eq v90_r0 c32_i32_93_r0
  let c0_i32_94_r0 : BitVec 32 := 0#32
  let v92_r0 : BitVec 32 := Scalar.select v91_r0 c0_i32_94_r0 v90_r0
  let c0_i32_95_r0 : BitVec 32 := 0#32
  let v93_r0 : BitVec 32 := Scalar.addi v92_r0 c0_i32_95_r0
  let v224_r0 : BitVec 32 := Scalar.muli c512_i32_r0 v93_r0
  let c0_i32_166_r0 : BitVec 32 := 0#32
  ![v224_r0.toNat, 0]
def k0_off9 (arg7_r0 : BitVec 32) : Fin 1 → Nat :=
  let c3_i32_163_r0 : BitVec 32 := 3#32
  let v224_r0 : BitVec 32 := Scalar.remui arg7_r0 c3_i32_163_r0
  ![v224_r0.toNat]
def k0_cond3 (k0_t1 : Fin k0_t1_loop.trips) (arg12_r0 : BitVec 32) : BitVec 1 :=
  let c0_i32_80_r0 : BitVec 32 := 0#32
  let v78_r0 : BitVec 32 := Scalar.addi arg12_r0 c0_i32_80_r0
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c31_i32_84_r0 : BitVec 32 := 31#32
  let v82_r0 : BitVec 32 := Scalar.select v81_r0 c31_i32_84_r0 v80_r0
  let c0_i32_85_r0 : BitVec 32 := 0#32
  let v83_r0 : BitVec 32 := Scalar.addi v82_r0 c0_i32_85_r0
  let v117_r0 : BitVec 1 := Scalar.cmpi .ne v78_r0 v83_r0
  let c0_i32_36_r0 : BitVec 32 := 0#32
  let c1_i32_38_r0 : BitVec 32 := 1#32
  let arg5_r0 : BitVec 32 := Scf.iv c0_i32_36_r0 c1_i32_38_r0 k0_t1
  let c0_i32_78_r0 : BitVec 32 := 0#32
  let v76_r0 : BitVec 1 := Scalar.cmpi .eq arg5_r0 c0_i32_78_r0
  let v118_r0 : BitVec 1 := Scalar.ori v117_r0 v76_r0
  let c0_i32_110_r0 : BitVec 32 := 0#32
  let v119_r0 : BitVec 1 := Scalar.cmpi .sge arg5_r0 c0_i32_110_r0
  let v120_r0 : BitVec 1 := Scalar.andi v118_r0 v119_r0
  let v121_r0 : BitVec 32 := Scalar.extui v120_r0
  let c0_i32_111_r0 : BitVec 32 := 0#32
  let v122_r0 : BitVec 1 := Scalar.cmpi .ne v121_r0 c0_i32_111_r0
  v122_r0

def k0_off10 (arg7_r0 : BitVec 32) : Fin 3 → Nat :=
  let c3_i32_163_r0 : BitVec 32 := 3#32
  let v224_r0 : BitVec 32 := Scalar.remui arg7_r0 c3_i32_163_r0
  let c0_i32_164_r0 : BitVec 32 := 0#32
  let c0_i32_165_r0 : BitVec 32 := 0#32
  ![v224_r0.toNat, 0, 0]
def k0_off11 (arg12_r0 : BitVec 32) : Fin 2 → Nat :=
  let c512_i32_r0 : BitVec 32 := 512#32
  let c0_i32_80_r0 : BitVec 32 := 0#32
  let v78_r0 : BitVec 32 := Scalar.addi arg12_r0 c0_i32_80_r0
  let v223_r0 : BitVec 32 := Scalar.muli c512_i32_r0 v78_r0
  let c0_i32_166_r0 : BitVec 32 := 0#32
  ![v223_r0.toNat, 0]
def k0_off12 (arg7_r0 : BitVec 32) : Fin 3 → Nat :=
  let c3_i32_116_r0 : BitVec 32 := 3#32
  let v135_r0 : BitVec 32 := Scalar.remui arg7_r0 c3_i32_116_r0
  let v138_r0 : Index := Scalar.indexCast v135_r0
  let c0_r0 : Index := 0#32
  let c0_119_r0 : Index := 0#32
  ![v138_r0.toNat, 0, 0]

def k0_chk2 (arg7_r0 : BitVec 32) : Prop :=
  (∀ a, (k0_off12 arg7_r0) a + S1x512x4096.size a ≤ S3x512x4096.size a)
theorem k0_off12_inb : ∀ (arg7_r0 : BitVec 32) (k0_hw2 : k0_chk2 arg7_r0), ∀ a, (k0_off12 arg7_r0) a + S1x512x4096.size a ≤ S3x512x4096.size a := fun arg7_r0 k0_hw2 => k0_hw2

def k0_off13 (arg8_r0 : BitVec 32) : Fin 4 → Nat :=
  let c2_i32_117_r0 : BitVec 32 := 2#32
  let v136_r0 : BitVec 32 := Scalar.remui arg8_r0 c2_i32_117_r0
  let c0_i32_127_r0 : BitVec 32 := 0#32
  let c0_i32_128_r0 : BitVec 32 := 0#32
  let c0_i32_129_r0 : BitVec 32 := 0#32
  ![v136_r0.toNat, 0, 0, 0]

def k0_chk3 (arg8_r0 : BitVec 32) : Prop :=
  (∀ a, (k0_off13 arg8_r0) a + S1x1x1x512.size a ≤ S2x1x1x512.size a)
theorem k0_off13_inb : ∀ (arg8_r0 : BitVec 32) (k0_hw3 : k0_chk3 arg8_r0), ∀ a, (k0_off13 arg8_r0) a + S1x1x1x512.size a ≤ S2x1x1x512.size a := fun arg8_r0 k0_hw3 => k0_hw3

def k0_off14 (arg10_r0 : BitVec 32) : Fin 4 → Nat :=
  let c2_i32_118_r0 : BitVec 32 := 2#32
  let v137_r0 : BitVec 32 := Scalar.remui arg10_r0 c2_i32_118_r0
  let c0_i32_134_r0 : BitVec 32 := 0#32
  let c0_i32_135_r0 : BitVec 32 := 0#32
  let c0_i32_136_r0 : BitVec 32 := 0#32
  ![v137_r0.toNat, 0, 0, 0]

def k0_chk4 (arg10_r0 : BitVec 32) : Prop :=
  (∀ a, (k0_off14 arg10_r0) a + S1x1x1x512.size a ≤ S2x1x1x512.size a)
theorem k0_off14_inb : ∀ (arg10_r0 : BitVec 32) (k0_hw4 : k0_chk4 arg10_r0), ∀ a, (k0_off14 arg10_r0) a + S1x1x1x512.size a ≤ S2x1x1x512.size a := fun arg10_r0 k0_hw4 => k0_hw4

def k0_off15 (arg8_r0 : BitVec 32) : Fin 1 → Nat :=
  let c2_i32_163_r0 : BitVec 32 := 2#32
  let v223_r0 : BitVec 32 := Scalar.remui arg8_r0 c2_i32_163_r0
  ![v223_r0.toNat]
def k0_cond7 (k0_t1 : Fin k0_t1_loop.trips) (arg12_r0 : BitVec 32) : BitVec 1 :=
  let c0_i32_80_r0 : BitVec 32 := 0#32
  let v78_r0 : BitVec 32 := Scalar.addi arg12_r0 c0_i32_80_r0
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c32_i32_88_r0 : BitVec 32 := 32#32
  let v86_r0 : BitVec 1 := Scalar.cmpi .eq v85_r0 c32_i32_88_r0
  let c0_i32_89_r0 : BitVec 32 := 0#32
  let v87_r0 : BitVec 32 := Scalar.select v86_r0 c0_i32_89_r0 v85_r0
  let c0_i32_90_r0 : BitVec 32 := 0#32
  let v88_r0 : BitVec 32 := Scalar.addi v87_r0 c0_i32_90_r0
  let v179_r0 : BitVec 1 := Scalar.cmpi .ne v78_r0 v88_r0
  let c0_i32_36_r0 : BitVec 32 := 0#32
  let c1_i32_38_r0 : BitVec 32 := 1#32
  let arg5_r0 : BitVec 32 := Scf.iv c0_i32_36_r0 c1_i32_38_r0 k0_t1
  let c31_i32_79_r0 : BitVec 32 := 31#32
  let v77_r0 : BitVec 1 := Scalar.cmpi .eq arg5_r0 c31_i32_79_r0
  let v180_r0 : BitVec 1 := Scalar.ori v179_r0 v77_r0
  let v181_r0 : BitVec 32 := Scalar.extui v180_r0
  let c0_i32_141_r0 : BitVec 32 := 0#32
  let v182_r0 : BitVec 1 := Scalar.cmpi .ne v181_r0 c0_i32_141_r0
  v182_r0

def k0_off16 (arg12_r0 : BitVec 32) : Fin 3 → Nat :=
  let c1_i32_164_r0 : BitVec 32 := 1#32
  let c0_i32_80_r0 : BitVec 32 := 0#32
  let v78_r0 : BitVec 32 := Scalar.addi arg12_r0 c0_i32_80_r0
  let v224_r0 : BitVec 32 := Scalar.muli c1_i32_164_r0 v78_r0
  let c0_i32_165_r0 : BitVec 32 := 0#32
  let c0_i32_166_r0 : BitVec 32 := 0#32
  ![v224_r0.toNat, 0, 0]
def k0_off17 (arg8_r0 : BitVec 32) : Fin 4 → Nat :=
  let c2_i32_163_r0 : BitVec 32 := 2#32
  let v223_r0 : BitVec 32 := Scalar.remui arg8_r0 c2_i32_163_r0
  let c0_i32_167_r0 : BitVec 32 := 0#32
  let c0_i32_168_r0 : BitVec 32 := 0#32
  let c0_i32_169_r0 : BitVec 32 := 0#32
  ![v223_r0.toNat, 0, 0, 0]
def k0_off18 (arg10_r0 : BitVec 32) : Fin 1 → Nat :=
  let c2_i32_163_r0 : BitVec 32 := 2#32
  let v223_r0 : BitVec 32 := Scalar.remui arg10_r0 c2_i32_163_r0
  ![v223_r0.toNat]
def k0_cond8 (k0_t1 : Fin k0_t1_loop.trips) (arg12_r0 : BitVec 32) : BitVec 1 :=
  let c0_i32_80_r0 : BitVec 32 := 0#32
  let v78_r0 : BitVec 32 := Scalar.addi arg12_r0 c0_i32_80_r0
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c32_i32_88_r0 : BitVec 32 := 32#32
  let v86_r0 : BitVec 1 := Scalar.cmpi .eq v85_r0 c32_i32_88_r0
  let c0_i32_89_r0 : BitVec 32 := 0#32
  let v87_r0 : BitVec 32 := Scalar.select v86_r0 c0_i32_89_r0 v85_r0
  let c0_i32_90_r0 : BitVec 32 := 0#32
  let v88_r0 : BitVec 32 := Scalar.addi v87_r0 c0_i32_90_r0
  let v186_r0 : BitVec 1 := Scalar.cmpi .ne v78_r0 v88_r0
  let c0_i32_36_r0 : BitVec 32 := 0#32
  let c1_i32_38_r0 : BitVec 32 := 1#32
  let arg5_r0 : BitVec 32 := Scf.iv c0_i32_36_r0 c1_i32_38_r0 k0_t1
  let c31_i32_79_r0 : BitVec 32 := 31#32
  let v77_r0 : BitVec 1 := Scalar.cmpi .eq arg5_r0 c31_i32_79_r0
  let v187_r0 : BitVec 1 := Scalar.ori v186_r0 v77_r0
  let v188_r0 : BitVec 32 := Scalar.extui v187_r0
  let c0_i32_144_r0 : BitVec 32 := 0#32
  let v189_r0 : BitVec 1 := Scalar.cmpi .ne v188_r0 c0_i32_144_r0
  v189_r0

def k0_off19 (arg12_r0 : BitVec 32) : Fin 3 → Nat :=
  let c1_i32_164_r0 : BitVec 32 := 1#32
  let c0_i32_80_r0 : BitVec 32 := 0#32
  let v78_r0 : BitVec 32 := Scalar.addi arg12_r0 c0_i32_80_r0
  let v224_r0 : BitVec 32 := Scalar.muli c1_i32_164_r0 v78_r0
  let c0_i32_165_r0 : BitVec 32 := 0#32
  let c0_i32_166_r0 : BitVec 32 := 0#32
  ![v224_r0.toNat, 0, 0]
def k0_off20 (arg10_r0 : BitVec 32) : Fin 4 → Nat :=
  let c2_i32_163_r0 : BitVec 32 := 2#32
  let v223_r0 : BitVec 32 := Scalar.remui arg10_r0 c2_i32_163_r0
  let c0_i32_167_r0 : BitVec 32 := 0#32
  let c0_i32_168_r0 : BitVec 32 := 0#32
  let c0_i32_169_r0 : BitVec 32 := 0#32
  ![v223_r0.toNat, 0, 0, 0]
def k0_off21 (arg9_r0 : BitVec 32) : Fin 1 → Nat :=
  let c2_i32_163_r0 : BitVec 32 := 2#32
  let v223_r0 : BitVec 32 := Scalar.remui arg9_r0 c2_i32_163_r0
  ![v223_r0.toNat]
def k0_cond10 (k0_t1 : Fin k0_t1_loop.trips) (arg12_r0 : BitVec 32) : BitVec 1 :=
  let c0_i32_80_r0 : BitVec 32 := 0#32
  let v78_r0 : BitVec 32 := Scalar.addi arg12_r0 c0_i32_80_r0
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c31_i32_84_r0 : BitVec 32 := 31#32
  let v82_r0 : BitVec 32 := Scalar.select v81_r0 c31_i32_84_r0 v80_r0
  let c0_i32_85_r0 : BitVec 32 := 0#32
  let v83_r0 : BitVec 32 := Scalar.addi v82_r0 c0_i32_85_r0
  let v199_r0 : BitVec 1 := Scalar.cmpi .ne v78_r0 v83_r0
  let c0_i32_36_r0 : BitVec 32 := 0#32
  let c1_i32_38_r0 : BitVec 32 := 1#32
  let arg5_r0 : BitVec 32 := Scf.iv c0_i32_36_r0 c1_i32_38_r0 k0_t1
  let c0_i32_78_r0 : BitVec 32 := 0#32
  let v76_r0 : BitVec 1 := Scalar.cmpi .eq arg5_r0 c0_i32_78_r0
  let true_150_r0 : BitVec 1 := 1#1
  let v200_r0 : BitVec 1 := Scalar.xori v76_r0 true_150_r0
  let v201_r0 : BitVec 1 := Scalar.andi v199_r0 v200_r0
  let v202_r0 : BitVec 32 := Scalar.extui v201_r0
  let c0_i32_151_r0 : BitVec 32 := 0#32
  let v203_r0 : BitVec 1 := Scalar.cmpi .ne v202_r0 c0_i32_151_r0
  v203_r0

def k0_off22 (arg12_r0 : BitVec 32) : Fin 3 → Nat :=
  let c1_i32_164_r0 : BitVec 32 := 1#32
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c31_i32_84_r0 : BitVec 32 := 31#32
  let v82_r0 : BitVec 32 := Scalar.select v81_r0 c31_i32_84_r0 v80_r0
  let c0_i32_85_r0 : BitVec 32 := 0#32
  let v83_r0 : BitVec 32 := Scalar.addi v82_r0 c0_i32_85_r0
  let v224_r0 : BitVec 32 := Scalar.muli c1_i32_164_r0 v83_r0
  let c0_i32_165_r0 : BitVec 32 := 0#32
  let c0_i32_166_r0 : BitVec 32 := 0#32
  ![v224_r0.toNat, 0, 0]
def k0_off23 (arg9_r0 : BitVec 32) : Fin 4 → Nat :=
  let c2_i32_163_r0 : BitVec 32 := 2#32
  let v223_r0 : BitVec 32 := Scalar.remui arg9_r0 c2_i32_163_r0
  let c0_i32_167_r0 : BitVec 32 := 0#32
  let c0_i32_168_r0 : BitVec 32 := 0#32
  let c0_i32_169_r0 : BitVec 32 := 0#32
  ![v223_r0.toNat, 0, 0, 0]
def k0_off24 (arg11_r0 : BitVec 32) : Fin 1 → Nat :=
  let c2_i32_163_r0 : BitVec 32 := 2#32
  let v223_r0 : BitVec 32 := Scalar.remui arg11_r0 c2_i32_163_r0
  ![v223_r0.toNat]
def k0_cond11 (k0_t1 : Fin k0_t1_loop.trips) (arg12_r0 : BitVec 32) : BitVec 1 :=
  let c0_i32_80_r0 : BitVec 32 := 0#32
  let v78_r0 : BitVec 32 := Scalar.addi arg12_r0 c0_i32_80_r0
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c31_i32_84_r0 : BitVec 32 := 31#32
  let v82_r0 : BitVec 32 := Scalar.select v81_r0 c31_i32_84_r0 v80_r0
  let c0_i32_85_r0 : BitVec 32 := 0#32
  let v83_r0 : BitVec 32 := Scalar.addi v82_r0 c0_i32_85_r0
  let v207_r0 : BitVec 1 := Scalar.cmpi .ne v78_r0 v83_r0
  let c0_i32_36_r0 : BitVec 32 := 0#32
  let c1_i32_38_r0 : BitVec 32 := 1#32
  let arg5_r0 : BitVec 32 := Scf.iv c0_i32_36_r0 c1_i32_38_r0 k0_t1
  let c0_i32_78_r0 : BitVec 32 := 0#32
  let v76_r0 : BitVec 1 := Scalar.cmpi .eq arg5_r0 c0_i32_78_r0
  let true_154_r0 : BitVec 1 := 1#1
  let v208_r0 : BitVec 1 := Scalar.xori v76_r0 true_154_r0
  let v209_r0 : BitVec 1 := Scalar.andi v207_r0 v208_r0
  let v210_r0 : BitVec 32 := Scalar.extui v209_r0
  let c0_i32_155_r0 : BitVec 32 := 0#32
  let v211_r0 : BitVec 1 := Scalar.cmpi .ne v210_r0 c0_i32_155_r0
  v211_r0

def k0_off25 (arg12_r0 : BitVec 32) : Fin 3 → Nat :=
  let c1_i32_164_r0 : BitVec 32 := 1#32
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c31_i32_84_r0 : BitVec 32 := 31#32
  let v82_r0 : BitVec 32 := Scalar.select v81_r0 c31_i32_84_r0 v80_r0
  let c0_i32_85_r0 : BitVec 32 := 0#32
  let v83_r0 : BitVec 32 := Scalar.addi v82_r0 c0_i32_85_r0
  let v224_r0 : BitVec 32 := Scalar.muli c1_i32_164_r0 v83_r0
  let c0_i32_165_r0 : BitVec 32 := 0#32
  let c0_i32_166_r0 : BitVec 32 := 0#32
  ![v224_r0.toNat, 0, 0]
def k0_off26 (arg11_r0 : BitVec 32) : Fin 4 → Nat :=
  let c2_i32_163_r0 : BitVec 32 := 2#32
  let v223_r0 : BitVec 32 := Scalar.remui arg11_r0 c2_i32_163_r0
  let c0_i32_167_r0 : BitVec 32 := 0#32
  let c0_i32_168_r0 : BitVec 32 := 0#32
  let c0_i32_169_r0 : BitVec 32 := 0#32
  ![v223_r0.toNat, 0, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) : Prop :=
  (∀ (k0_h2 : k0_cond2 k0_t1 arg12_r0 = 1#1), ∀ a, (k0_off6 arg6_r0) a + S1.size a ≤ S3.size a) ∧
  (∀ (k0_h2 : k0_cond2 k0_t1 arg12_r0 = 1#1), ∀ a, (k0_off7 arg6_r0) a + S1x512x4096.size a ≤ S3x512x4096.size a) ∧
  (∀ (k0_h2 : k0_cond2 k0_t1 arg12_r0 = 1#1), ∀ a, (k0_off8 arg12_r0) a + S512x4096.size a ≤ S16384x4096.size a) ∧
  (∀ (k0_h3 : k0_cond3 k0_t1 arg12_r0 = 1#1), ∀ a, (k0_off9 arg7_r0) a + S1.size a ≤ S3.size a) ∧
  (∀ (k0_h3 : k0_cond3 k0_t1 arg12_r0 = 1#1), ∀ a, (k0_off10 arg7_r0) a + S1x512x4096.size a ≤ S3x512x4096.size a) ∧
  (∀ (k0_h3 : k0_cond3 k0_t1 arg12_r0 = 1#1), ∀ a, (k0_off11 arg12_r0) a + S512x4096.size a ≤ S16384x4096.size a) ∧
  (∀ (k0_h7 : k0_cond7 k0_t1 arg12_r0 = 1#1), ∀ a, (k0_off15 arg8_r0) a + S1.size a ≤ S2.size a) ∧
  (∀ (k0_h7 : k0_cond7 k0_t1 arg12_r0 = 1#1), ∀ a, (k0_off16 arg12_r0) a + S1x1x512.size a ≤ S32x1x512.size a) ∧
  (∀ (k0_h7 : k0_cond7 k0_t1 arg12_r0 = 1#1), ∀ a, (k0_off17 arg8_r0) a + S1x1x1x512.size a ≤ S2x1x1x512.size a) ∧
  (∀ (k0_h8 : k0_cond8 k0_t1 arg12_r0 = 1#1), ∀ a, (k0_off18 arg10_r0) a + S1.size a ≤ S2.size a) ∧
  (∀ (k0_h8 : k0_cond8 k0_t1 arg12_r0 = 1#1), ∀ a, (k0_off19 arg12_r0) a + S1x1x512.size a ≤ S32x1x512.size a) ∧
  (∀ (k0_h8 : k0_cond8 k0_t1 arg12_r0 = 1#1), ∀ a, (k0_off20 arg10_r0) a + S1x1x1x512.size a ≤ S2x1x1x512.size a) ∧
  (∀ (k0_h10 : k0_cond10 k0_t1 arg12_r0 = 1#1), ∀ a, (k0_off21 arg9_r0) a + S1.size a ≤ S2.size a) ∧
  (∀ (k0_h10 : k0_cond10 k0_t1 arg12_r0 = 1#1), ∀ a, (k0_off22 arg12_r0) a + S1x1x512.size a ≤ S32x1x512.size a) ∧
  (∀ (k0_h10 : k0_cond10 k0_t1 arg12_r0 = 1#1), ∀ a, (k0_off23 arg9_r0) a + S1x1x1x512.size a ≤ S2x1x1x512.size a) ∧
  (∀ (k0_h11 : k0_cond11 k0_t1 arg12_r0 = 1#1), ∀ a, (k0_off24 arg11_r0) a + S1.size a ≤ S2.size a) ∧
  (∀ (k0_h11 : k0_cond11 k0_t1 arg12_r0 = 1#1), ∀ a, (k0_off25 arg12_r0) a + S1x1x512.size a ≤ S32x1x512.size a) ∧
  (∀ (k0_h11 : k0_cond11 k0_t1 arg12_r0 = 1#1), ∀ a, (k0_off26 arg11_r0) a + S1x1x1x512.size a ≤ S2x1x1x512.size a)
theorem k0_off6_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h2 : k0_cond2 k0_t1 arg12_r0 = 1#1), ∀ a, (k0_off6 arg6_r0) a + S1.size a ≤ S3.size a := fun k0_t1 arg6_r0 arg7_r0 arg8_r0 arg9_r0 arg10_r0 arg11_r0 arg12_r0 k0_hw1 k0_h2 => k0_hw1.1 k0_h2
theorem k0_off7_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h2 : k0_cond2 k0_t1 arg12_r0 = 1#1), ∀ a, (k0_off7 arg6_r0) a + S1x512x4096.size a ≤ S3x512x4096.size a := fun k0_t1 arg6_r0 arg7_r0 arg8_r0 arg9_r0 arg10_r0 arg11_r0 arg12_r0 k0_hw1 k0_h2 => k0_hw1.2.1 k0_h2
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h2 : k0_cond2 k0_t1 arg12_r0 = 1#1), ∀ a, (k0_off8 arg12_r0) a + S512x4096.size a ≤ S16384x4096.size a := fun k0_t1 arg6_r0 arg7_r0 arg8_r0 arg9_r0 arg10_r0 arg11_r0 arg12_r0 k0_hw1 k0_h2 => k0_hw1.2.2.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off9 arg7_r0) a + S1.size a ≤ S3.size a := fun k0_t1 arg6_r0 arg7_r0 arg8_r0 arg9_r0 arg10_r0 arg11_r0 arg12_r0 k0_hw1 k0_h3 => k0_hw1.2.2.2.1 k0_h3
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off10 arg7_r0) a + S1x512x4096.size a ≤ S3x512x4096.size a := fun k0_t1 arg6_r0 arg7_r0 arg8_r0 arg9_r0 arg10_r0 arg11_r0 arg12_r0 k0_hw1 k0_h3 => k0_hw1.2.2.2.2.1 k0_h3
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off11 arg12_r0) a + S512x4096.size a ≤ S16384x4096.size a := fun k0_t1 arg6_r0 arg7_r0 arg8_r0 arg9_r0 arg10_r0 arg11_r0 arg12_r0 k0_hw1 k0_h3 => k0_hw1.2.2.2.2.2.1 k0_h3
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h7 : k0_cond7 k0_t1 arg12_r0 = 1#1), ∀ a, (k0_off15 arg8_r0) a + S1.size a ≤ S2.size a := fun k0_t1 arg6_r0 arg7_r0 arg8_r0 arg9_r0 arg10_r0 arg11_r0 arg12_r0 k0_hw1 k0_h7 => k0_hw1.2.2.2.2.2.2.1 k0_h7
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h7 : k0_cond7 k0_t1 arg12_r0 = 1#1), ∀ a, (k0_off16 arg12_r0) a + S1x1x512.size a ≤ S32x1x512.size a := fun k0_t1 arg6_r0 arg7_r0 arg8_r0 arg9_r0 arg10_r0 arg11_r0 arg12_r0 k0_hw1 k0_h7 => k0_hw1.2.2.2.2.2.2.2.1 k0_h7
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h7 : k0_cond7 k0_t1 arg12_r0 = 1#1), ∀ a, (k0_off17 arg8_r0) a + S1x1x1x512.size a ≤ S2x1x1x512.size a := fun k0_t1 arg6_r0 arg7_r0 arg8_r0 arg9_r0 arg10_r0 arg11_r0 arg12_r0 k0_hw1 k0_h7 => k0_hw1.2.2.2.2.2.2.2.2.1 k0_h7
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h8 : k0_cond8 k0_t1 arg12_r0 = 1#1), ∀ a, (k0_off18 arg10_r0) a + S1.size a ≤ S2.size a := fun k0_t1 arg6_r0 arg7_r0 arg8_r0 arg9_r0 arg10_r0 arg11_r0 arg12_r0 k0_hw1 k0_h8 => k0_hw1.2.2.2.2.2.2.2.2.2.1 k0_h8
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h8 : k0_cond8 k0_t1 arg12_r0 = 1#1), ∀ a, (k0_off19 arg12_r0) a + S1x1x512.size a ≤ S32x1x512.size a := fun k0_t1 arg6_r0 arg7_r0 arg8_r0 arg9_r0 arg10_r0 arg11_r0 arg12_r0 k0_hw1 k0_h8 => k0_hw1.2.2.2.2.2.2.2.2.2.2.1 k0_h8
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h8 : k0_cond8 k0_t1 arg12_r0 = 1#1), ∀ a, (k0_off20 arg10_r0) a + S1x1x1x512.size a ≤ S2x1x1x512.size a := fun k0_t1 arg6_r0 arg7_r0 arg8_r0 arg9_r0 arg10_r0 arg11_r0 arg12_r0 k0_hw1 k0_h8 => k0_hw1.2.2.2.2.2.2.2.2.2.2.2.1 k0_h8
theorem k0_off21_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h10 : k0_cond10 k0_t1 arg12_r0 = 1#1), ∀ a, (k0_off21 arg9_r0) a + S1.size a ≤ S2.size a := fun k0_t1 arg6_r0 arg7_r0 arg8_r0 arg9_r0 arg10_r0 arg11_r0 arg12_r0 k0_hw1 k0_h10 => k0_hw1.2.2.2.2.2.2.2.2.2.2.2.2.1 k0_h10
theorem k0_off22_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h10 : k0_cond10 k0_t1 arg12_r0 = 1#1), ∀ a, (k0_off22 arg12_r0) a + S1x1x512.size a ≤ S32x1x512.size a := fun k0_t1 arg6_r0 arg7_r0 arg8_r0 arg9_r0 arg10_r0 arg11_r0 arg12_r0 k0_hw1 k0_h10 => k0_hw1.2.2.2.2.2.2.2.2.2.2.2.2.2.1 k0_h10
theorem k0_off23_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h10 : k0_cond10 k0_t1 arg12_r0 = 1#1), ∀ a, (k0_off23 arg9_r0) a + S1x1x1x512.size a ≤ S2x1x1x512.size a := fun k0_t1 arg6_r0 arg7_r0 arg8_r0 arg9_r0 arg10_r0 arg11_r0 arg12_r0 k0_hw1 k0_h10 => k0_hw1.2.2.2.2.2.2.2.2.2.2.2.2.2.2.1 k0_h10
theorem k0_off24_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off24 arg11_r0) a + S1.size a ≤ S2.size a := fun k0_t1 arg6_r0 arg7_r0 arg8_r0 arg9_r0 arg10_r0 arg11_r0 arg12_r0 k0_hw1 k0_h11 => k0_hw1.2.2.2.2.2.2.2.2.2.2.2.2.2.2.2.1 k0_h11
theorem k0_off25_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off25 arg12_r0) a + S1x1x512.size a ≤ S32x1x512.size a := fun k0_t1 arg6_r0 arg7_r0 arg8_r0 arg9_r0 arg10_r0 arg11_r0 arg12_r0 k0_hw1 k0_h11 => k0_hw1.2.2.2.2.2.2.2.2.2.2.2.2.2.2.2.2.1 k0_h11
theorem k0_off26_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off26 arg11_r0) a + S1x1x1x512.size a ≤ S2x1x1x512.size a := fun k0_t1 arg6_r0 arg7_r0 arg8_r0 arg9_r0 arg10_r0 arg11_r0 arg12_r0 k0_hw1 k0_h11 => k0_hw1.2.2.2.2.2.2.2.2.2.2.2.2.2.2.2.2.2 k0_h11

def k0_off27 (v36_3_r0 : BitVec 32) : Fin 1 → Nat :=
  let c2_i32_r0 : BitVec 32 := 2#32
  let v62_r0 : BitVec 32 := Scalar.remui v36_3_r0 c2_i32_r0
  ![v62_r0.toNat]

def k0_off28 (v36_6_r0 : BitVec 32) : Fin 3 → Nat :=
  let c1_i32_65_r0 : BitVec 32 := 1#32
  let true_41_r0 : BitVec 1 := 1#1
  let c1_i32_40_r0 : BitVec 32 := 1#32
  let v37_r0 : BitVec 32 := Scalar.subi v36_6_r0 c1_i32_40_r0
  let v38_r0 : BitVec 32 := Scalar.select true_41_r0 v37_r0 v36_6_r0
  let c_m1_i32_42_r0 : BitVec 32 := 4294967295#32
  let v39_r0 : BitVec 1 := Scalar.cmpi .eq v38_r0 c_m1_i32_42_r0
  let c31_i32_43_r0 : BitVec 32 := 31#32
  let v40_r0 : BitVec 32 := Scalar.select v39_r0 c31_i32_43_r0 v38_r0
  let c0_i32_44_r0 : BitVec 32 := 0#32
  let v41_r0 : BitVec 32 := Scalar.addi v40_r0 c0_i32_44_r0
  let v63_r0 : BitVec 32 := Scalar.muli c1_i32_65_r0 v41_r0
  let c0_i32_66_r0 : BitVec 32 := 0#32
  let c0_i32_67_r0 : BitVec 32 := 0#32
  ![v63_r0.toNat, 0, 0]

def k0_off29 (v36_3_r0 : BitVec 32) : Fin 4 → Nat :=
  let c2_i32_r0 : BitVec 32 := 2#32
  let v62_r0 : BitVec 32 := Scalar.remui v36_3_r0 c2_i32_r0
  let c0_i32_68_r0 : BitVec 32 := 0#32
  let c0_i32_69_r0 : BitVec 32 := 0#32
  let c0_i32_70_r0 : BitVec 32 := 0#32
  ![v62_r0.toNat, 0, 0, 0]

def k0_chk5 (v36_3_r0 : BitVec 32) : Prop :=
  (∀ a, (k0_off27 v36_3_r0) a + S1.size a ≤ S2.size a) ∧
  (∀ a, (k0_off29 v36_3_r0) a + S1x1x1x512.size a ≤ S2x1x1x512.size a)
theorem k0_off27_inb : ∀ (v36_3_r0 : BitVec 32) (k0_hw5 : k0_chk5 v36_3_r0), ∀ a, (k0_off27 v36_3_r0) a + S1.size a ≤ S2.size a := fun v36_3_r0 k0_hw5 => k0_hw5.1
theorem k0_off29_inb : ∀ (v36_3_r0 : BitVec 32) (k0_hw5 : k0_chk5 v36_3_r0), ∀ a, (k0_off29 v36_3_r0) a + S1x1x1x512.size a ≤ S2x1x1x512.size a := fun v36_3_r0 k0_hw5 => k0_hw5.2

def k0_off30 (v36_5_r0 : BitVec 32) : Fin 1 → Nat :=
  let c2_i32_71_r0 : BitVec 32 := 2#32
  let v69_r0 : BitVec 32 := Scalar.remui v36_5_r0 c2_i32_71_r0
  ![v69_r0.toNat]

def k0_off31 (v36_6_r0 : BitVec 32) : Fin 3 → Nat :=
  let c1_i32_72_r0 : BitVec 32 := 1#32
  let true_41_r0 : BitVec 1 := 1#1
  let c1_i32_40_r0 : BitVec 32 := 1#32
  let v37_r0 : BitVec 32 := Scalar.subi v36_6_r0 c1_i32_40_r0
  let v38_r0 : BitVec 32 := Scalar.select true_41_r0 v37_r0 v36_6_r0
  let c_m1_i32_42_r0 : BitVec 32 := 4294967295#32
  let v39_r0 : BitVec 1 := Scalar.cmpi .eq v38_r0 c_m1_i32_42_r0
  let c31_i32_43_r0 : BitVec 32 := 31#32
  let v40_r0 : BitVec 32 := Scalar.select v39_r0 c31_i32_43_r0 v38_r0
  let c0_i32_44_r0 : BitVec 32 := 0#32
  let v41_r0 : BitVec 32 := Scalar.addi v40_r0 c0_i32_44_r0
  let v70_r0 : BitVec 32 := Scalar.muli c1_i32_72_r0 v41_r0
  let c0_i32_73_r0 : BitVec 32 := 0#32
  let c0_i32_74_r0 : BitVec 32 := 0#32
  ![v70_r0.toNat, 0, 0]

def k0_chk6 (v36_6_r0 : BitVec 32) : Prop :=
  (∀ a, (k0_off28 v36_6_r0) a + S1x1x512.size a ≤ S32x1x512.size a) ∧
  (∀ a, (k0_off31 v36_6_r0) a + S1x1x512.size a ≤ S32x1x512.size a)
theorem k0_off28_inb : ∀ (v36_6_r0 : BitVec 32) (k0_hw6 : k0_chk6 v36_6_r0), ∀ a, (k0_off28 v36_6_r0) a + S1x1x512.size a ≤ S32x1x512.size a := fun v36_6_r0 k0_hw6 => k0_hw6.1
theorem k0_off31_inb : ∀ (v36_6_r0 : BitVec 32) (k0_hw6 : k0_chk6 v36_6_r0), ∀ a, (k0_off31 v36_6_r0) a + S1x1x512.size a ≤ S32x1x512.size a := fun v36_6_r0 k0_hw6 => k0_hw6.2

def k0_off32 (v36_5_r0 : BitVec 32) : Fin 4 → Nat :=
  let c2_i32_71_r0 : BitVec 32 := 2#32
  let v69_r0 : BitVec 32 := Scalar.remui v36_5_r0 c2_i32_71_r0
  let c0_i32_75_r0 : BitVec 32 := 0#32
  let c0_i32_76_r0 : BitVec 32 := 0#32
  let c0_i32_77_r0 : BitVec 32 := 0#32
  ![v69_r0.toNat, 0, 0, 0]

def k0_chk7 (v36_5_r0 : BitVec 32) : Prop :=
  (∀ a, (k0_off30 v36_5_r0) a + S1.size a ≤ S2.size a) ∧
  (∀ a, (k0_off32 v36_5_r0) a + S1x1x1x512.size a ≤ S2x1x1x512.size a)
theorem k0_off30_inb : ∀ (v36_5_r0 : BitVec 32) (k0_hw7 : k0_chk7 v36_5_r0), ∀ a, (k0_off30 v36_5_r0) a + S1.size a ≤ S2.size a := fun v36_5_r0 k0_hw7 => k0_hw7.1
theorem k0_off32_inb : ∀ (v36_5_r0 : BitVec 32) (k0_hw7 : k0_chk7 v36_5_r0), ∀ a, (k0_off32 v36_5_r0) a + S1x1x1x512.size a ≤ S2x1x1x512.size a := fun v36_5_r0 k0_hw7 => k0_hw7.2

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x4096x4096 : Shape := ⟨3, ![4, 4096, 4096]⟩
abbrev S64x4096 : Shape := ⟨2, ![64, 4096]⟩
abbrev S64 : Shape := ⟨1, ![64]⟩
abbrev S4096x64 : Shape := ⟨2, ![4096, 64]⟩
abbrev S4x4096x64 : Shape := ⟨3, ![4, 4096, 64]⟩
abbrev S1x1x64 : Shape := ⟨3, ![1, 1, 64]⟩
abbrev S_ : Shape := ⟨0, ![]⟩
abbrev S4x4096 : Shape := ⟨2, ![4, 4096]⟩
abbrev S4x4096x1 : Shape := ⟨3, ![4, 4096, 1]⟩
abbrev S4x4096x1x1 : Shape := ⟨4, ![4, 4096, 1, 1]⟩
abbrev S1 : Shape := ⟨1, ![1]⟩
abbrev S1x1x1x1 : Shape := ⟨4, ![1, 1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S4x4096x64, .f32⟩
  | .hbm, ⟨5, _⟩ => ⟨S1x1x64, .f32⟩
  | .hbm, ⟨6, _⟩ => ⟨S4x4096x64, .f32⟩
  | .hbm, ⟨7, _⟩ => ⟨S4x4096x64, .f32⟩
  | .hbm, ⟨8, _⟩ => ⟨S4x4096x64, .i32⟩
  | .hbm, ⟨9, _⟩ => ⟨S_, .f32⟩
  | .hbm, ⟨10, _⟩ => ⟨S_, .i32⟩
  | .hbm, ⟨11, _⟩ => ⟨S4x4096, .f32⟩
  | .hbm, ⟨12, _⟩ => ⟨S4x4096, .i32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x64, .f32⟩
  | .hbm, ⟨20, _⟩ => ⟨S4x4096x64, .f32⟩
  | .hbm, ⟨21, _⟩ => ⟨S4x4096x64, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x64, .f32⟩
  | .hbm, ⟨26, _⟩ => ⟨S4x4096x64, .f32⟩
  | .hbm, ⟨27, _⟩ => ⟨S4x4096x1, .i32⟩
  | .hbm, ⟨28, _⟩ => ⟨S_, .i32⟩
  | .hbm, ⟨29, _⟩ => ⟨S4x4096x1, .i32⟩
  | .hbm, ⟨30, _⟩ => ⟨S4x4096x1, .i1⟩
  | .hbm, ⟨31, _⟩ => ⟨S_, .i32⟩
  | .hbm, ⟨32, _⟩ => ⟨S4x4096x1, .i32⟩
  | .hbm, ⟨33, _⟩ => ⟨S4x4096x1, .i32⟩
  | .hbm, ⟨34, _⟩ => ⟨S4x4096x1, .i32⟩
  | .hbm, ⟨35, _⟩ => ⟨S4x4096x1x1, .i32⟩
  | .hbm, ⟨36, _⟩ => ⟨S1, .i32⟩
  | .hbm, ⟨37, _⟩ => ⟨S_, .i32⟩
  | .hbm, ⟨38, _⟩ => ⟨S4x4096x1x1, .i32⟩
  | .hbm, ⟨39, _⟩ => ⟨S4x4096x1x1, .i1⟩
  | .hbm, ⟨40, _⟩ => ⟨S1x1x1x1, .i32⟩
  | .hbm, ⟨41, _⟩ => ⟨S4x4096x1x1, .i32⟩
  | .hbm, ⟨42, _⟩ => ⟨S4x4096x1x1, .i1⟩
  | .hbm, ⟨43, _⟩ => ⟨S4x4096x1x1, .i1⟩
  | .hbm, ⟨44, _⟩ => ⟨S_, .i1⟩
  | .hbm, ⟨45, _⟩ => ⟨S4x4096x1, .i1⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096, .f32⟩
  | .hbm, ⟨51, _⟩ => ⟨S_, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩

abbrev nD : Nat := 1
abbrev τ : Topo := Topo.v7x

variable {F : FTy → Type} [FloatOps F]
-- ==== Proof.Ideal.Names.lean ====
/-
  Names for what the kernel touches by hand.

  The kernel's loop runs over 32 blocks of 512 token rows. It keeps three slots for blocks of the input, each with its
  semaphore, and two slots for each of the two results, each with theirs. The program computes which slot, which
  semaphore and which block of rows it means from seven counters that it carries from trip to trip. Here the counters
  are written as functions of the trip number, every offset is shown to be the one the trip number gives, and every
  slice of the program gets its short name.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameSuffixV
public import Idealize.ShloMosaic.Lib.Ring
public import Idealize.ShloMosaic.Lib.Ring.WriteBehind
public import Idealize.ShloMosaic.Lib.Tactic

@[expose] public section

noncomputable section

namespace Cert.KernelIdeal.Rows

open Cert.KernelIdeal Cert.KernelIdeal.Gen
open Idealize.ShloMosaic
open Idealize.ShloMosaic.TcCoe Idealize.ShloMosaic.Tactic

/-! ## The arrays and the buffers, whole -/

abbrev xM : Memref sig .tc .hbm S16384x4096 .f32 := Memref.whole main_call0_v0
abbrev maskM : Memref sig .tc .hbm S32x1x512 .i32 := Memref.whole main_call0_v3_0
abbrev probM : Memref sig .tc .hbm S32x1x512 .f32 := Memref.whole main_call0_v3_1
abbrev xbufM : Memref sig .tc .vmem S3x512x4096 .f32 := Memref.whole cc0_scoped0
abbrev mbufM : Memref sig .tc .vmem S2x1x1x512 .i32 := Memref.whole cc0_scoped2
abbrev pbufM : Memref sig .tc .vmem S2x1x1x512 .f32 := Memref.whole cc0_scoped4

/-! ## Offsets -/

abbrev xOff (b : Fin 32) : Fin 2 → Nat := ![512 * b.val, 0]
abbrev xsOff (s : Fin 3) : Fin 3 → Nat := ![s.val, 0, 0]
abbrev rOff (b : Fin 32) : Fin 3 → Nat := ![b.val, 0, 0]
abbrev rsOff (s : Fin 2) : Fin 4 → Nat := ![s.val, 0, 0, 0]
abbrev c3Off (s : Fin 3) : Fin 1 → Nat := ![s.val]
abbrev c2Off (s : Fin 2) : Fin 1 → Nat := ![s.val]

theorem xOff_inb : ∀ (b : Fin 32) (a), xOff b a + S512x4096.size a ≤ S16384x4096.size a := by decide +kernel
theorem xsOff_inb : ∀ (s : Fin 3) (a), xsOff s a + S1x512x4096.size a ≤ S3x512x4096.size a := by decide +kernel
theorem rOff_inb : ∀ (b : Fin 32) (a), rOff b a + S1x1x512.size a ≤ S32x1x512.size a := by decide +kernel
theorem rsOff_inb : ∀ (s : Fin 2) (a), rsOff s a + S1x1x1x512.size a ≤ S2x1x1x512.size a := by decide +kernel
theorem c3Off_inb : ∀ (s : Fin 3) (a), c3Off s a + S1.size a ≤ S3.size a := by decide +kernel
theorem c2Off_inb : ∀ (s : Fin 2) (a), c2Off s a + S1.size a ≤ S2.size a := by decide +kernel

/-! ## The pieces, as the program slices them -/

/-- The 512 rows of block `b` of the input. -/
def xblk (b : Fin 32) : Memref sig .tc .hbm S512x4096 .f32 :=
  xM.slice (Rect.unit (s := S16384x4096) (xOff b) S512x4096.size (xOff_inb b)) (fun _ => rfl)
/-- Slot `s` for blocks of the input. -/
def xslot (s : Fin 3) : Memref sig .tc .vmem S512x4096 .f32 :=
  (xbufM.slice (Rect.unit (s := S3x512x4096) (xsOff s) S1x512x4096.size (xsOff_inb s)) (fun _ => rfl)).squeeze S512x4096 squeezes_S1x512x4096_S512x4096
/-- Its semaphore. -/
def xsem (s : Fin 3) : DmaSems sig S_ := (cc0_scoped1.slice (Rect.unit (s := S3) (c3Off s) S1.size (c3Off_inb s))).squeeze S_ squeezes_S1_S_
/-- Block `b` of the result with the chosen expert of each token. -/
def mblk (b : Fin 32) : Memref sig .tc .hbm S1x1x512 .i32 :=
  maskM.slice (Rect.unit (s := S32x1x512) (rOff b) S1x1x512.size (rOff_inb b)) (fun _ => rfl)
/-- Slot `s` for blocks of that result. -/
def mslot (s : Fin 2) : Memref sig .tc .vmem S1x1x512 .i32 :=
  (mbufM.slice (Rect.unit (s := S2x1x1x512) (rsOff s) S1x1x1x512.size (rsOff_inb s)) (fun _ => rfl)).squeeze S1x1x512 squeezes_S1x1x1x512_S1x1x512
/-- Its semaphore. -/
def msem (s : Fin 2) : DmaSems sig S_ := (cc0_scoped3.slice (Rect.unit (s := S2) (c2Off s) S1.size (c2Off_inb s))).squeeze S_ squeezes_S1_S_
/-- Block `b` of the result with the probability of the chosen expert. -/
def pblk (b : Fin 32) : Memref sig .tc .hbm S1x1x512 .f32 :=
  probM.slice (Rect.unit (s := S32x1x512) (rOff b) S1x1x512.size (rOff_inb b)) (fun _ => rfl)
/-- Slot `s` for blocks of that result. -/
def pslot (s : Fin 2) : Memref sig .tc .vmem S1x1x512 .f32 :=
  (pbufM.slice (Rect.unit (s := S2x1x1x512) (rsOff s) S1x1x1x512.size (rsOff_inb s)) (fun _ => rfl)).squeeze S1x1x512 squeezes_S1x1x1x512_S1x1x512
/-- Its semaphore. -/
def psem (s : Fin 2) : DmaSems sig S_ := (cc0_scoped5.slice (Rect.unit (s := S2) (c2Off s) S1.size (c2Off_inb s))).squeeze S_ squeezes_S1_S_

instance (s : Fin 3) : ClosedOff (xsOff s) := ⟨xsOff s, rfl⟩
instance (s : Fin 2) : ClosedOff (rsOff s) := ⟨rsOff s, rfl⟩
instance (b : Fin 32) : ClosedOff (xOff b) := ⟨xOff b, rfl⟩
instance (b : Fin 32) : ClosedOff (rOff b) := ⟨rOff b, rfl⟩

/-! ## The carried counters before trip `k` -/

/-- Blocks of the input asked for so far: two more than trips run, until none is left. -/
def wIn (k : ℕ) : BitVec 32 := BitVec.ofNat 32 (min (k + 2) 32)
/-- Trips run so far. -/
def wRun (k : ℕ) : BitVec 32 := BitVec.ofNat 32 k
/-- Blocks of a result known to have arrived: one fewer than trips run. -/
def wOut (k : ℕ) : BitVec 32 := BitVec.ofNat 32 (k - 1)
/-- The block this trip works on (back at zero after the last). -/
def wBlk (k : ℕ) : BitVec 32 := BitVec.ofNat 32 (k % 32)

/-- The seven together, in the order the loop carries them. -/
abbrev words (k : ℕ) : BitVec 32 × BitVec 32 × BitVec 32 × BitVec 32 × BitVec 32 × BitVec 32 × BitVec 32 :=
  (wIn k, wRun k, wRun k, wOut k, wRun k, wOut k, wBlk k)

/-! ## Every offset in closed form: 32 trips, each evaluated -/

theorem off6_eq : ∀ k : Fin k0_t1_loop.trips, k.val + 2 < 32 → k0_off6 (wIn k.val) = c3Off (Ring.sl 3 (k.val + 2)) := by decide +kernel
theorem off7_eq : ∀ k : Fin k0_t1_loop.trips, k.val + 2 < 32 → k0_off7 (wIn k.val) = xsOff (Ring.sl 3 (k.val + 2)) := by decide +kernel
theorem off8_eq : ∀ k : Fin k0_t1_loop.trips, k.val + 2 < 32 → k0_off8 (wBlk k.val) = xOff (Ring.bk 32 (k.val + 2)) := by decide +kernel
theorem off9_eq : ∀ k : Fin k0_t1_loop.trips, k0_off9 (wRun k.val) = c3Off (Ring.sl 3 k.val) := by decide +kernel
theorem off10_eq : ∀ k : Fin k0_t1_loop.trips, k0_off10 (wRun k.val) = xsOff (Ring.sl 3 k.val) := by decide +kernel
theorem off11_eq : ∀ k : Fin k0_t1_loop.trips, k0_off11 (wBlk k.val) = xOff (Ring.bk 32 k.val) := by decide +kernel
theorem off12_eq : ∀ k : Fin k0_t1_loop.trips, k0_off12 (wRun k.val) = xsOff (Ring.sl 3 k.val) := by decide +kernel
theorem off13_eq : ∀ k : Fin k0_t1_loop.trips, k0_off13 (wRun k.val) = rsOff (Ring.sl 2 k.val) := by decide +kernel
theorem off14_eq : ∀ k : Fin k0_t1_loop.trips, k0_off14 (wRun k.val) = rsOff (Ring.sl 2 k.val) := by decide +kernel
theorem off15_eq : ∀ k : Fin k0_t1_loop.trips, k0_off15 (wRun k.val) = c2Off (Ring.sl 2 k.val) := by decide +kernel
theorem off16_eq : ∀ k : Fin k0_t1_loop.trips, k0_off16 (wBlk k.val) = rOff (Ring.bk 32 k.val) := by decide +kernel
theorem off17_eq : ∀ k : Fin k0_t1_loop.trips, k0_off17 (wRun k.val) = rsOff (Ring.sl 2 k.val) := by decide +kernel
theorem off18_eq : ∀ k : Fin k0_t1_loop.trips, k0_off18 (wRun k.val) = c2Off (Ring.sl 2 k.val) := by decide +kernel
theorem off19_eq : ∀ k : Fin k0_t1_loop.trips, k0_off19 (wBlk k.val) = rOff (Ring.bk 32 k.val) := by decide +kernel
theorem off20_eq : ∀ k : Fin k0_t1_loop.trips, k0_off20 (wRun k.val) = rsOff (Ring.sl 2 k.val) := by decide +kernel
theorem off21_eq : ∀ k : Fin k0_t1_loop.trips, 1 ≤ k.val → k0_off21 (wOut k.val) = c2Off (Ring.sl 2 (k.val + 1)) := by decide +kernel
theorem off22_eq : ∀ k : Fin k0_t1_loop.trips, 1 ≤ k.val → k0_off22 (wBlk k.val) = rOff (Ring.bk 32 (k.val - 1)) := by decide +kernel
theorem off23_eq : ∀ k : Fin k0_t1_loop.trips, 1 ≤ k.val → k0_off23 (wOut k.val) = rsOff (Ring.sl 2 (k.val + 1)) := by decide +kernel
theorem off24_eq : ∀ k : Fin k0_t1_loop.trips, 1 ≤ k.val → k0_off24 (wOut k.val) = c2Off (Ring.sl 2 (k.val + 1)) := by decide +kernel
theorem off25_eq : ∀ k : Fin k0_t1_loop.trips, 1 ≤ k.val → k0_off25 (wBlk k.val) = rOff (Ring.bk 32 (k.val - 1)) := by decide +kernel
theorem off26_eq : ∀ k : Fin k0_t1_loop.trips, 1 ≤ k.val → k0_off26 (wOut k.val) = rsOff (Ring.sl 2 (k.val + 1)) := by decide +kernel

instance (k : Fin k0_t1_loop.trips) : ClosedOff (k0_off12 (wRun k.val)) := ⟨xsOff (Ring.sl 3 k.val), off12_eq k⟩

/-! ## The side conditions and the branches of a trip -/

theorem chk1_ok : ∀ k : Fin k0_t1_loop.trips, k0_chk1 k (wIn k.val) (wRun k.val) (wRun k.val) (wOut k.val) (wRun k.val) (wOut k.val) (wBlk k.val) := by decide +kernel
theorem chk2_ok : ∀ k : Fin k0_t1_loop.trips, k0_chk2 (wRun k.val) := by decide +kernel
theorem chk3_ok : ∀ k : Fin k0_t1_loop.trips, k0_chk3 (wRun k.val) := by decide +kernel
theorem chk4_ok : ∀ k : Fin k0_t1_loop.trips, k0_chk4 (wRun k.val) := by decide +kernel

theorem cond2_pos : ∀ k : Fin k0_t1_loop.trips, k.val + 2 < 32 → k0_cond2 k (wBlk k.val) = 1#1 := by decide +kernel
theorem cond2_neg : ∀ k : Fin k0_t1_loop.trips, ¬ k.val + 2 < 32 → ¬ k0_cond2 k (wBlk k.val) = 1#1 := by decide +kernel
theorem cond3_pos : ∀ k : Fin k0_t1_loop.trips, k0_cond3 k (wBlk k.val) = 1#1 := by decide +kernel
theorem cond7_pos : ∀ k : Fin k0_t1_loop.trips, k0_cond7 k (wBlk k.val) = 1#1 := by decide +kernel
theorem cond8_pos : ∀ k : Fin k0_t1_loop.trips, k0_cond8 k (wBlk k.val) = 1#1 := by decide +kernel
theorem cond10_pos : ∀ k : Fin k0_t1_loop.trips, 1 ≤ k.val → k0_cond10 k (wBlk k.val) = 1#1 := by decide +kernel
theorem cond10_neg : ∀ k : Fin k0_t1_loop.trips, k.val = 0 → ¬ k0_cond10 k (wBlk k.val) = 1#1 := by decide +kernel
theorem cond11_pos : ∀ k : Fin k0_t1_loop.trips, 1 ≤ k.val → k0_cond11 k (wBlk k.val) = 1#1 := by decide +kernel
theorem cond11_neg : ∀ k : Fin k0_t1_loop.trips, k.val = 0 → ¬ k0_cond11 k (wBlk k.val) = 1#1 := by decide +kernel

/-! ## The program's slices are these names -/

private theorem xsem_congr {off : Fin 1 → Nat} {s : Fin 3} (e : off = c3Off s) (hh) :
    (cc0_scoped1.slice (Rect.unit (s := S3) off S1.size hh)).squeeze S_ squeezes_S1_S_ = xsem s := by subst e; rfl
private theorem msem_congr {off : Fin 1 → Nat} {s : Fin 2} (e : off = c2Off s) (hh) :
    (cc0_scoped3.slice (Rect.unit (s := S2) off S1.size hh)).squeeze S_ squeezes_S1_S_ = msem s := by subst e; rfl
private theorem psem_congr {off : Fin 1 → Nat} {s : Fin 2} (e : off = c2Off s) (hh) :
    (cc0_scoped5.slice (Rect.unit (s := S2) off S1.size hh)).squeeze S_ squeezes_S1_S_ = psem s := by subst e; rfl
private theorem xslot_congr {off : Fin 3 → Nat} {s : Fin 3} (e : off = xsOff s) (hh hs) :
    (xbufM.slice (Rect.unit (s := S3x512x4096) off S1x512x4096.size hh) hs).squeeze S512x4096 squeezes_S1x512x4096_S512x4096 = xslot s := by subst e; rfl
private theorem mslot_congr {off : Fin 4 → Nat} {s : Fin 2} (e : off = rsOff s) (hh hs) :
    (mbufM.slice (Rect.unit (s := S2x1x1x512) off S1x1x1x512.size hh) hs).squeeze S1x1x512 squeezes_S1x1x1x512_S1x1x512 = mslot s := by subst e; rfl
private theorem pslot_congr {off : Fin 4 → Nat} {s : Fin 2} (e : off = rsOff s) (hh hs) :
    (pbufM.slice (Rect.unit (s := S2x1x1x512) off S1x1x1x512.size hh) hs).squeeze S1x1x512 squeezes_S1x1x1x512_S1x1x512 = pslot s := by subst e; rfl
private theorem xblk_congr {off : Fin 2 → Nat} {b : Fin 32} (e : off = xOff b) (hh hs) :
    xM.slice (Rect.unit (s := S16384x4096) off S512x4096.size hh) hs = xblk b := by subst e; rfl
private theorem mblk_congr {off : Fin 3 → Nat} {b : Fin 32} (e : off = rOff b) (hh hs) :
    maskM.slice (Rect.unit (s := S32x1x512) off S1x1x512.size hh) hs = mblk b := by subst e; rfl
private theorem pblk_congr {off : Fin 3 → Nat} {b : Fin 32} (e : off = rOff b) (hh hs) :
    probM.slice (Rect.unit (s := S32x1x512) off S1x1x512.size hh) hs = pblk b := by subst e; rfl

section Trip
variable (k : Fin k0_t1_loop.trips)

@[sl_canon] theorem xsem_issue (h : k.val + 2 < 32) (hh) :
    (cc0_scoped1.slice (Rect.unit (s := S3) (k0_off6 (wIn k.val)) S1.size hh)).squeeze S_ squeezes_S1_S_ = xsem (Ring.sl 3 (k.val + 2)) := xsem_congr (off6_eq k h) _
@[sl_canon] theorem xslot_issue (h : k.val + 2 < 32) (hh hs) :
    (xbufM.slice (Rect.unit (s := S3x512x4096) (k0_off7 (wIn k.val)) S1x512x4096.size hh) hs).squeeze S512x4096 squeezes_S1x512x4096_S512x4096 = xslot (Ring.sl 3 (k.val + 2)) := xslot_congr (off7_eq k h) _ _
@[sl_canon] theorem xblk_issue (h : k.val + 2 < 32) (hh hs) :
    xM.slice (Rect.unit (s := S16384x4096) (k0_off8 (wBlk k.val)) S512x4096.size hh) hs = xblk (Ring.bk 32 (k.val + 2)) := xblk_congr (off8_eq k h) _ _
@[sl_canon] theorem xsem_wait (hh) :
    (cc0_scoped1.slice (Rect.unit (s := S3) (k0_off9 (wRun k.val)) S1.size hh)).squeeze S_ squeezes_S1_S_ = xsem (Ring.sl 3 k.val) := xsem_congr (off9_eq k) _
@[sl_canon] theorem xslot_wait (hh hs) :
    (xbufM.slice (Rect.unit (s := S3x512x4096) (k0_off10 (wRun k.val)) S1x512x4096.size hh) hs).squeeze S512x4096 squeezes_S1x512x4096_S512x4096 = xslot (Ring.sl 3 k.val) := xslot_congr (off10_eq k) _ _
@[sl_canon] theorem xblk_wait (hh hs) :
    xM.slice (Rect.unit (s := S16384x4096) (k0_off11 (wBlk k.val)) S512x4096.size hh) hs = xblk (Ring.bk 32 k.val) := xblk_congr (off11_eq k) _ _
@[sl_canon] theorem mslot_store (hh hs) :
    (mbufM.slice (Rect.unit (s := S2x1x1x512) (k0_off13 (wRun k.val)) S1x1x1x512.size hh) hs).squeeze S1x1x512 squeezes_S1x1x1x512_S1x1x512 = mslot (Ring.sl 2 k.val) := mslot_congr (off13_eq k) _ _
@[sl_canon] theorem pslot_store (hh hs) :
    (pbufM.slice (Rect.unit (s := S2x1x1x512) (k0_off14 (wRun k.val)) S1x1x1x512.size hh) hs).squeeze S1x1x512 squeezes_S1x1x1x512_S1x1x512 = pslot (Ring.sl 2 k.val) := pslot_congr (off14_eq k) _ _
@[sl_canon] theorem msem_issue (hh) :
    (cc0_scoped3.slice (Rect.unit (s := S2) (k0_off15 (wRun k.val)) S1.size hh)).squeeze S_ squeezes_S1_S_ = msem (Ring.sl 2 k.val) := msem_congr (off15_eq k) _
@[sl_canon] theorem mblk_issue (hh hs) :
    maskM.slice (Rect.unit (s := S32x1x512) (k0_off16 (wBlk k.val)) S1x1x512.size hh) hs = mblk (Ring.bk 32 k.val) := mblk_congr (off16_eq k) _ _
@[sl_canon] theorem mslot_issue (hh hs) :
    (mbufM.slice (Rect.unit (s := S2x1x1x512) (k0_off17 (wRun k.val)) S1x1x1x512.size hh) hs).squeeze S1x1x512 squeezes_S1x1x1x512_S1x1x512 = mslot (Ring.sl 2 k.val) := mslot_congr (off17_eq k) _ _
@[sl_canon] theorem psem_issue (hh) :
    (cc0_scoped5.slice (Rect.unit (s := S2) (k0_off18 (wRun k.val)) S1.size hh)).squeeze S_ squeezes_S1_S_ = psem (Ring.sl 2 k.val) := psem_congr (off18_eq k) _
@[sl_canon] theorem pblk_issue (hh hs) :
    probM.slice (Rect.unit (s := S32x1x512) (k0_off19 (wBlk k.val)) S1x1x512.size hh) hs = pblk (Ring.bk 32 k.val) := pblk_congr (off19_eq k) _ _
@[sl_canon] theorem pslot_issue (hh hs) :
    (pbufM.slice (Rect.unit (s := S2x1x1x512) (k0_off20 (wRun k.val)) S1x1x1x512.size hh) hs).squeeze S1x1x512 squeezes_S1x1x1x512_S1x1x512 = pslot (Ring.sl 2 k.val) := pslot_congr (off20_eq k) _ _
@[sl_canon] theorem msem_wait (h : 1 ≤ k.val) (hh) :
    (cc0_scoped3.slice (Rect.unit (s := S2) (k0_off21 (wOut k.val)) S1.size hh)).squeeze S_ squeezes_S1_S_ = msem (Ring.sl 2 (k.val + 1)) := msem_congr (off21_eq k h) _
@[sl_canon] theorem mblk_wait (h : 1 ≤ k.val) (hh hs) :
    maskM.slice (Rect.unit (s := S32x1x512) (k0_off22 (wBlk k.val)) S1x1x512.size hh) hs = mblk (Ring.bk 32 (k.val - 1)) := mblk_congr (off22_eq k h) _ _
@[sl_canon] theorem mslot_wait (h : 1 ≤ k.val) (hh hs) :
    (mbufM.slice (Rect.unit (s := S2x1x1x512) (k0_off23 (wOut k.val)) S1x1x1x512.size hh) hs).squeeze S1x1x512 squeezes_S1x1x1x512_S1x1x512 = mslot (Ring.sl 2 (k.val + 1)) := mslot_congr (off23_eq k h) _ _
@[sl_canon] theorem psem_wait (h : 1 ≤ k.val) (hh) :
    (cc0_scoped5.slice (Rect.unit (s := S2) (k0_off24 (wOut k.val)) S1.size hh)).squeeze S_ squeezes_S1_S_ = psem (Ring.sl 2 (k.val + 1)) := psem_congr (off24_eq k h) _
@[sl_canon] theorem pblk_wait (h : 1 ≤ k.val) (hh hs) :
    probM.slice (Rect.unit (s := S32x1x512) (k0_off25 (wBlk k.val)) S1x1x512.size hh) hs = pblk (Ring.bk 32 (k.val - 1)) := pblk_congr (off25_eq k h) _ _
@[sl_canon] theorem pslot_wait (h : 1 ≤ k.val) (hh hs) :
    (pbufM.slice (Rect.unit (s := S2x1x1x512) (k0_off26 (wOut k.val)) S1x1x1x512.size hh) hs).squeeze S1x1x512 squeezes_S1x1x1x512_S1x1x512 = pslot (Ring.sl 2 (k.val + 1)) := pslot_congr (off26_eq k h) _ _

end Trip

/-! ## The slices outside the loop -/

@[sl_canon] theorem xsem_first (hh) : (cc0_scoped1.slice (Rect.unit (s := S3) k0_off1 S1.size hh)).squeeze S_ squeezes_S1_S_ = xsem 0 := xsem_congr (by decide +kernel) _
@[sl_canon] theorem xslot_first (hh hs) :
    (xbufM.slice (Rect.unit (s := S3x512x4096) k0_off2 S1x512x4096.size hh) hs).squeeze S512x4096 squeezes_S1x512x4096_S512x4096 = xslot 0 := xslot_congr (by decide +kernel) _ _
@[sl_canon] theorem xsem_second (hh) : (cc0_scoped1.slice (Rect.unit (s := S3) k0_off3 S1.size hh)).squeeze S_ squeezes_S1_S_ = xsem 1 := xsem_congr (by decide +kernel) _
@[sl_canon] theorem xslot_second (hh hs) :
    (xbufM.slice (Rect.unit (s := S3x512x4096) k0_off4 S1x512x4096.size hh) hs).squeeze S512x4096 squeezes_S1x512x4096_S512x4096 = xslot 1 := xslot_congr (by decide +kernel) _ _
@[sl_canon] theorem xblk_second (hh hs) :
    xM.slice (Rect.unit (s := S16384x4096) k0_off5 S512x4096.size hh) hs = xblk 1 := xblk_congr (by decide +kernel) _ _
@[sl_canon] theorem xblk_first (hh hs) :
    xM.slice (Rect.unit (s := S16384x4096) ![0, 0] S512x4096.size hh) hs = xblk 0 := xblk_congr (by decide +kernel) _ _
@[sl_canon] theorem msem_last (hh) :
    (cc0_scoped3.slice (Rect.unit (s := S2) (k0_off27 (wOut 32)) S1.size hh)).squeeze S_ squeezes_S1_S_ = msem (Ring.sl 2 (32 + 1)) := msem_congr (by decide +kernel) _
@[sl_canon] theorem mblk_last (hh hs) :
    maskM.slice (Rect.unit (s := S32x1x512) (k0_off28 (wBlk 32)) S1x1x512.size hh) hs = mblk (Ring.bk 32 (32 - 1)) := mblk_congr (by decide +kernel) _ _
@[sl_canon] theorem mslot_last (hh hs) :
    (mbufM.slice (Rect.unit (s := S2x1x1x512) (k0_off29 (wOut 32)) S1x1x1x512.size hh) hs).squeeze S1x1x512 squeezes_S1x1x1x512_S1x1x512 = mslot (Ring.sl 2 (32 + 1)) := mslot_congr (by decide +kernel) _ _
@[sl_canon] theorem psem_last (hh) :
    (cc0_scoped5.slice (Rect.unit (s := S2) (k0_off30 (wOut 32)) S1.size hh)).squeeze S_ squeezes_S1_S_ = psem (Ring.sl 2 (32 + 1)) := psem_congr (by decide +kernel) _
@[sl_canon] theorem pblk_last (hh hs) :
    probM.slice (Rect.unit (s := S32x1x512) (k0_off31 (wBlk 32)) S1x1x512.size hh) hs = pblk (Ring.bk 32 (32 - 1)) := pblk_congr (by decide +kernel) _ _
@[sl_canon] theorem pslot_last (hh hs) :
    (pbufM.slice (Rect.unit (s := S2x1x1x512) (k0_off32 (wOut 32)) S1x1x1x512.size hh) hs).squeeze S1x1x512 squeezes_S1x1x1x512_S1x1x512 = pslot (Ring.sl 2 (32 + 1)) := pslot_congr (by decide +kernel) _ _

theorem chk5_ok : k0_chk5 (wOut 32) := by decide +kernel
theorem chk6_ok : k0_chk6 (wBlk 32) := by decide +kernel
theorem chk7_ok : k0_chk7 (wOut 32) := by decide +kernel

end Cert.KernelIdeal.Rows

end
-- ==== Proof.Ideal.Pieces.lean ====
/-
  What the kernel holds while its loop runs.

  A block of the input is at home, or on its way into one of the three slots. A block of a result is still untouched, or
  on its way out of one of the two slots, or written. Here stand the words for these, and what one block's two
  results are: `maskOf` and `probOf`, the values that the body computes from the 512 rows of the block, the weights and
  the bias.
-/
module

public import proofs.«01_k».proof.Proof.Ideal.Names
public import Idealize.ShloMosaic.Lib.VecWindow

@[expose] public section

noncomputable section

namespace Cert.KernelIdeal.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
abbrev 𝒱₀ : Variants := Variants.none

/-! ## The two results of one block -/

/-- The chosen experts of a block of rows, from the rows, the weights and the bias. -/
abbrev maskOf (x : FVec F S512x4096 .f32) (wt : Vec F S4096x64 .f32) (b : Vec F S1x64 .f32) : IVec S1x1x512 32 := k0_pay4 x wt b
/-- The chosen experts' probabilities. -/
abbrev probOf (x : FVec F S512x4096 .f32) (wt : Vec F S4096x64 .f32) (b : Vec F S1x64 .f32) : FVec F S1x1x512 .f32 := k0_pay5 x wt b

section Pieces

variable (c : Dev nD) (XA : Buf (Elt F) (xM.view.loc (c : Thread nD τ)))

/-- The rows of block `b`. -/
abbrev rows (b : Fin 32) : FVec F S512x4096 .f32 := ReadAs.same.apply ((xblk b).view.read (Elt F) XA)

/-! ## The input's ring -/

abbrev xCell (s : Fin 3) : sProp 𝕄 := semVal ((c : Thread nD τ), SemLoc.dma (xsem s).sem) 0
abbrev xSlot (s : Fin 3) (f : Buf (Elt F) ((xslot s).view.loc (c : Thread nD τ))) : sProp 𝕄 :=
  (xslot s).view.loc (c : Thread nD τ) ↦[(xslot s).view.set]{fullShare} f
/-- Block `b` at home. -/
abbrev xHome (b : Fin 32) : sProp 𝕄 := (xblk b).view.loc (c : Thread nD τ) ↦[(xblk b).view.set]{fullShare} XA
/-- What block `b` leaves in slot `s`. -/
abbrev xLanded (s : Fin 3) (b : Fin 32) (f : Buf (Elt F) ((xslot s).view.loc (c : Thread nD τ))) : Buf (Elt F) ((xslot s).view.loc (c : Thread nD τ)) :=
  (xslot s).view.writes (Elt F) f [⟨Rect.whole S512x4096, rows c XA b⟩]
/-- Block `b` on its way into slot `s`. -/
abbrev xFlight (s : Fin 3) (b : Fin 32) (f : Buf (Elt F) ((xslot s).view.loc (c : Thread nD τ))) : sProp 𝕄 :=
  Transfers.Flight countersEmb (c : Thread nD τ) (SemLoc.dma (xsem s).sem) () 262144 iprop(xSlot c s (xLanded c XA s b f) ∗ xHome c XA b)

/-! ## The results' rings -/

abbrev mCell (s : Fin 2) : sProp 𝕄 := semVal ((c : Thread nD τ), SemLoc.dma (msem s).sem) 0
abbrev mSlot (s : Fin 2) (f : Buf (Elt F) ((mslot s).view.loc (c : Thread nD τ))) : sProp 𝕄 :=
  (mslot s).view.loc (c : Thread nD τ) ↦[(mslot s).view.set]{fullShare} f
/-- Block `b` of the result at contents `g`. -/
abbrev mHome (g : Buf (Elt F) (maskM.view.loc (c : Thread nD τ))) (b : Fin 32) : sProp 𝕄 :=
  (mblk b).view.loc (c : Thread nD τ) ↦[(mblk b).view.set]{fullShare} g
abbrev mLanded (s : Fin 2) (b : Fin 32) (f : Buf (Elt F) ((mslot s).view.loc (c : Thread nD τ))) (g : Buf (Elt F) (maskM.view.loc (c : Thread nD τ))) :
    Buf (Elt F) (maskM.view.loc (c : Thread nD τ)) :=
  (mblk b).view.writes (Elt F) g [⟨Rect.whole S1x1x512, ReadAs.same.apply ((mslot s).view.read (Elt F) f)⟩]
abbrev mFlight (s : Fin 2) (b : Fin 32) (f : Buf (Elt F) ((mslot s).view.loc (c : Thread nD τ))) (g : Buf (Elt F) (maskM.view.loc (c : Thread nD τ))) : sProp 𝕄 :=
  Transfers.Flight countersEmb (c : Thread nD τ) (SemLoc.dma (msem s).sem) () 64 iprop(mHome c (mLanded c s b f g) b ∗ mSlot c s f)

abbrev pCell (s : Fin 2) : sProp 𝕄 := semVal ((c : Thread nD τ), SemLoc.dma (psem s).sem) 0
abbrev pSlot (s : Fin 2) (f : Buf (Elt F) ((pslot s).view.loc (c : Thread nD τ))) : sProp 𝕄 :=
  (pslot s).view.loc (c : Thread nD τ) ↦[(pslot s).view.set]{fullShare} f
abbrev pHome (g : Buf (Elt F) (probM.view.loc (c : Thread nD τ))) (b : Fin 32) : sProp 𝕄 :=
  (pblk b).view.loc (c : Thread nD τ) ↦[(pblk b).view.set]{fullShare} g
abbrev pLanded (s : Fin 2) (b : Fin 32) (f : Buf (Elt F) ((pslot s).view.loc (c : Thread nD τ))) (g : Buf (Elt F) (probM.view.loc (c : Thread nD τ))) :
    Buf (Elt F) (probM.view.loc (c : Thread nD τ)) :=
  (pblk b).view.writes (Elt F) g [⟨Rect.whole S1x1x512, ReadAs.same.apply ((pslot s).view.read (Elt F) f)⟩]
abbrev pFlight (s : Fin 2) (b : Fin 32) (f : Buf (Elt F) ((pslot s).view.loc (c : Thread nD τ))) (g : Buf (Elt F) (probM.view.loc (c : Thread nD τ))) : sProp 𝕄 :=
  Transfers.Flight countersEmb (c : Thread nD τ) (SemLoc.dma (psem s).sem) () 64 iprop(pHome c (pLanded c s b f g) b ∗ pSlot c s f)

/-- A slot of a result free, and one whose block is on its way out with the contents `v b` it should have. -/
abbrev mFree (s : Fin 2) : sProp 𝕄 := iprop(mCell c s ∗ ∃ f, mSlot c s f)
abbrev mOut (v : Fin 32 → IVec S1x1x512 32) (s : Fin 2) (b : Fin 32) : sProp 𝕄 :=
  iprop(∃ f g, mFlight c s b f g ∗ ⌜(mslot s).view.read (Elt F) f = v b⌝)
abbrev pFree (s : Fin 2) : sProp 𝕄 := iprop(pCell c s ∗ ∃ f, pSlot c s f)
abbrev pOut (v : Fin 32 → FVec F S1x1x512 .f32) (s : Fin 2) (b : Fin 32) : sProp 𝕄 :=
  iprop(∃ f g, pFlight c s b f g ∗ ⌜(pslot s).view.read (Elt F) f = v b⌝)

/-! ## The three rings before trip `k` -/

/-- The input's: blocks `k` and `k + 1` on their way, the third slot free. -/
abbrev xRing (k : ℕ) : sProp 𝕄 := Ring.At 2 (xCell c) (xSlot c) (xHome c XA) (xFlight c XA) k
/-- A result's: blocks from `k` on at their first contents `g₀`, those before `k - 1` at the final ones `g₁`, block
    `k - 1` on its way. -/
abbrev mRing (v : Fin 32 → IVec S1x1x512 32) (g₀ g₁ : Buf (Elt F) (maskM.view.loc (c : Thread nD τ))) (k : ℕ) : sProp 𝕄 :=
  Ring.AtB 1 (mFree c) (mOut c v) (mHome c g₀) (mHome c g₁) k
abbrev pRing (v : Fin 32 → FVec F S1x1x512 .f32) (g₀ g₁ : Buf (Elt F) (probM.view.loc (c : Thread nD τ))) (k : ℕ) : sProp 𝕄 :=
  Ring.AtB 1 (pFree c) (pOut c v) (pHome c g₀) (pHome c g₁) k

end Pieces

/-! ## What is read back -/

/-- The body's load of slot `s` reads the rows that arrived there. -/
theorem slot_rows (s : Fin 3) {off : Fin 3 → Nat} (e : off = xsOff s) (hh) (f : xbufM.view.ty.Contents (Elt F)) (x : S512x4096.Idx → Elt F .f32) :
    shapeCast S512x4096 (xbufM.view.readAt (Elt F) (Rect.unit (s := S3x512x4096) off S1x512x4096.size hh).toLoadRect
      ((xslot s).view.writes (Elt F) f [⟨Rect.whole S512x4096, x⟩])) shapeCasts_S1x512x4096_S512x4096 = x := by
  subst e
  exact (show _ = (xslot s).view.read (Elt F) ((xslot s).view.writes (Elt F) f [⟨Rect.whole S512x4096, x⟩]) from rfl).trans
    (View.read_writes_whole _ _ _)

/-- A slot of a result, filled with a block's values, reads them. -/
theorem mslot_read (s : Fin 2) (f : (mslot s).view.ty.Contents (Elt F)) (hh) (w : S1x1x512.Idx → Elt F .i32) :
    (mslot s).view.read (Elt F) ((mslot s).view.writes (Elt F) f [⟨Rect.unit (s := S1x1x512) ![0, 0, 0] S1x1x512.size hh, w⟩]) = w :=
  View.read_writes_full _ _ _ _ _
theorem pslot_read (s : Fin 2) (f : (pslot s).view.ty.Contents (Elt F)) (hh) (w : S1x1x512.Idx → Elt F .f32) :
    (pslot s).view.read (Elt F) ((pslot s).view.writes (Elt F) f [⟨Rect.unit (s := S1x1x512) ![0, 0, 0] S1x1x512.size hh, w⟩]) = w :=
  View.read_writes_full _ _ _ _ _

/-- A block of a result that has arrived with the contents it should have is that block of the final result. -/
theorem mHome_arrived (c : Dev nD) (s : Fin 2) (b : Fin 32) (f : Buf (Elt F) ((mslot s).view.loc (c : Thread nD τ)))
    (g g₁ : Buf (Elt F) (maskM.view.loc (c : Thread nD τ))) (h : (mslot s).view.read (Elt F) f = (mblk b).view.read (Elt F) g₁) :
    (mHome c (mLanded c s b f g) b : sProp 𝕄) ⊢ mHome c g₁ b := by
  have e : (mblk b).view.read (Elt F) (mLanded c s b f g) = (mblk b).view.read (Elt F) g₁ := (View.read_writes_whole _ _ _).trans h
  exact Entails.of_eq ((pointsTo_rep (c : Thread nD τ) (mblk b) (mLanded c s b f g) fullShare).trans
    ((congrArg (fun w => ((mblk b).view.loc (c : Thread nD τ) ↦[(mblk b).view.set]{fullShare} (mblk b).view.rep w : sProp 𝕄)) e).trans
      (pointsTo_rep (c : Thread nD τ) (mblk b) g₁ fullShare).symm))
theorem pHome_arrived (c : Dev nD) (s : Fin 2) (b : Fin 32) (f : Buf (Elt F) ((pslot s).view.loc (c : Thread nD τ)))
    (g g₁ : Buf (Elt F) (probM.view.loc (c : Thread nD τ))) (h : (pslot s).view.read (Elt F) f = (pblk b).view.read (Elt F) g₁) :
    (pHome c (pLanded c s b f g) b : sProp 𝕄) ⊢ pHome c g₁ b := by
  have e : (pblk b).view.read (Elt F) (pLanded c s b f g) = (pblk b).view.read (Elt F) g₁ := (View.read_writes_whole _ _ _).trans h
  exact Entails.of_eq ((pointsTo_rep (c : Thread nD τ) (pblk b) (pLanded c s b f g) fullShare).trans
    ((congrArg (fun w => ((pblk b).view.loc (c : Thread nD τ) ↦[(pblk b).view.set]{fullShare} (pblk b).view.rep w : sProp 𝕄)) e).trans
      (pointsTo_rep (c : Thread nD τ) (pblk b) g₁ fullShare).symm))

end Cert.KernelIdeal.Rows

end
-- ==== Proof.Ideal.Trip.lean ====
/-
  One trip of the loop.
-/
module

public import proofs.«01_k».proof.Proof.Ideal.Pieces
public import Idealize.ShloMosaic.Lib.VecWindow

@[expose] public section

noncomputable section

namespace Cert.KernelIdeal.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Trip

variable (c : Dev nD) (XA : Buf (Elt F) (xM.view.loc (c : Thread nD τ)))
  (arg1 : Memref sig .tc .vmem S4096x64 .f32) (harg1 : arg1.IsWhole)
  (arg2 : Memref sig .tc .vmem S1x64 .f32) (harg2 : arg2.IsWhole)
  (v10 v27 : BitVec 32) (v29 : BitVec 1)

/-- The region of the loop at trip `k`, on the counters `acc`. -/
abbrev tripP (k : Fin k0_t1_loop.trips) (acc : BitVec 32 × BitVec 32 × BitVec 32 × BitVec 32 × BitVec 32 × BitVec 32 × BitVec 32) :
    Prog (TpuEff nD τ sig (Elt F) Λ₀ .tc) (BitVec 32 × BitVec 32 × BitVec 32 × BitVec 32 × BitVec 32 × BitVec 32 × BitVec 32) :=
  k0_t1_body (F := F) xM (Memref.isWhole_whole _) arg1 harg1 arg2 harg2 maskM (Memref.isWhole_whole _) probM (Memref.isWhole_whole _)
    xbufM (Memref.isWhole_whole _) cc0_scoped1 mbufM (Memref.isWhole_whole _) cc0_scoped3 pbufM (Memref.isWhole_whole _) cc0_scoped5 v10 v27 v29 k acc

abbrev wtP (f : Buf (Elt F) (arg1.view.loc (c : Thread nD τ))) : sProp 𝕄 := arg1.view.loc (c : Thread nD τ) ↦[arg1.view.set]{fullShare} f
abbrev biasP (f : Buf (Elt F) (arg2.view.loc (c : Thread nD τ))) : sProp 𝕄 := arg2.view.loc (c : Thread nD τ) ↦[arg2.view.set]{fullShare} f

/-- The weights and the bias as the body loads them. -/
abbrev wtV (fw : Buf (Elt F) (arg1.view.loc (c : Thread nD τ))) : Vec F S4096x64 .f32 :=
  arg1.view.readAt (Elt F) (Rect.unit (s := S4096x64) ![0, 0] S4096x64.size inb_S4096x64_S4096x64_0_0).toLoadRect fw
abbrev biasV (fb : Buf (Elt F) (arg2.view.loc (c : Thread nD τ))) : Vec F S1x64 .f32 :=
  arg2.view.readAt (Elt F) (Rect.unit (s := S1x64) ![0, 0] S1x64.size inb_S1x64_S1x64_0_0).toLoadRect fb

/-- What the two results' blocks should hold. -/
abbrev vmOf (fw : Buf (Elt F) (arg1.view.loc (c : Thread nD τ))) (fb : Buf (Elt F) (arg2.view.loc (c : Thread nD τ))) (b : Fin 32) : IVec S1x1x512 32 :=
  maskOf (rows c XA b) (wtV c arg1 fw) (biasV c arg2 fb)
abbrev vpOf (fw : Buf (Elt F) (arg1.view.loc (c : Thread nD τ))) (fb : Buf (Elt F) (arg2.view.loc (c : Thread nD τ))) (b : Fin 32) : FVec F S1x1x512 .f32 :=
  probOf (rows c XA b) (wtV c arg1 fw) (biasV c arg2 fb)

variable (fw : Buf (Elt F) (arg1.view.loc (c : Thread nD τ))) (fb : Buf (Elt F) (arg2.view.loc (c : Thread nD τ)))
  (gm₀ gm₁ : Buf (Elt F) (maskM.view.loc (c : Thread nD τ))) (gp₀ gp₁ : Buf (Elt F) (probM.view.loc (c : Thread nD τ)))

/-- What the core holds before trip `k`. -/
abbrev tripRes (k : ℕ) : sProp 𝕄 :=
  iprop(wtP c arg1 fw ∗ biasP c arg2 fb ∗ (∃ W, owes (c : Thread nD τ) 0 W) ∗ xRing c XA k
    ∗ mRing c (vmOf c XA arg1 arg2 fw fb) gm₀ gm₁ k ∗ pRing c (vpOf c XA arg1 arg2 fw fb) gp₀ gp₁ k)

/-- A trip in the middle: block `k + 2` goes out, block `k` comes in and is computed, its results go out, and the
    results of block `k - 1` arrive. -/
theorem midRun (hm : ∀ b, (mblk b).view.read (Elt F) gm₁ = vmOf c XA arg1 arg2 fw fb b) (hp : ∀ b, (pblk b).view.read (Elt F) gp₁ = vpOf c XA arg1 arg2 fw fb b)
    (k : Fin k0_t1_loop.trips) (h1 : 1 ≤ k.val) (h2 : k.val + 2 < 32) :
    tripRes c XA arg1 arg2 fw fb gm₀ gm₁ gp₀ gp₁ k.val
      ⊢ wp frame (wpE (defs₀ (F := F)) 𝒱₀ (c : Thread nD τ) none) Set.univ (tripP arg1 harg1 arg2 harg2 v10 v27 v29 k (words k.val))
          (fun acc => iprop(⌜acc = words (k.val + 1)⌝ ∗ tripRes c XA arg1 arg2 fw fb gm₀ gm₁ gp₀ gp₁ (k.val + 1))) := by
  have hk : k.val < 32 := by omega
  have c1 := chk1_ok k
  have c2 := chk2_ok k
  have c3 := chk3_ok k
  have c4 := chk4_ok k
  have d2 := cond2_pos k h2
  have d3 := cond3_pos k
  have d7 := cond7_pos k
  have d8 := cond8_pos k
  have d10 := cond10_pos k h1
  have d11 := cond11_pos k h1
  unfold tripRes xRing mRing pRing
  rw [Ring.At3_here _ _ _ _ k.val h2, Ring.AtB21_here _ _ _ _ k.val h1 hk, Ring.AtB21_here _ _ _ _ k.val h1 hk,
    Ring.At3_next _ _ _ _ k.val h2, Ring.slotAt3_next0 _ _ _ k.val (by omega), Ring.slotAt3_next1 _ _ _ k.val h2,
    Ring.AtB21_next _ _ _ _ k.val h1 hk, Ring.AtB21_next _ _ _ _ k.val h1 hk]
  iintro ⟨Hw, Hb, ⟨%W, HW⟩, ⟨⟨Hx, Hxr⟩, ⟨%f0, HF0⟩, ⟨%f1, HF1⟩, ⟨Hxc, ⟨%f2, Hxs⟩⟩⟩,
    ⟨⟨Hm, Hma⟩, Hmb, ⟨Hmc, ⟨%fm, Hms⟩⟩, ⟨%fm', %gm', HFm, %em⟩⟩, ⟨⟨Hp, Hpa⟩, Hpb, ⟨Hpc, ⟨%fp, Hps⟩⟩, ⟨%fp', %gp', HFp, %ep⟩⟩⟩
  dsimp only [tripP]
  sl_unfold [k0_t1_body]
  sl_exec
  sl_step
  isplitr
  · ipureintro
    clear em ep; clear f0 f1 f2 fm fm' fp fp'; clear c1 c2 c3 c4 d2 d3 d7 d8 d10 d11 hk
    revert h1 h2; revert k; simp only [words, Prod.mk.injEq]; decide +kernel
  isplitl [Hw]; · iexact Hw
  isplitl [Hb]; · iexact Hb
  isplitl [HW]; · iexists _; iexact HW
  isplitl [Hxr HF0_src HF1 Hxc HF0 HF0_dst]
  · isplitl [HF0_src Hxr]
    · isplitl [HF0_src]; · iexact HF0_src
      iexact Hxr
    isplitl [HF1]; · iexists _; iexact HF1
    isplitl [Hxc]; · iexists _; iexact Hxc
    isplitl [HF0]; · iexact HF0
    iexists _; iexact HF0_dst
  isplitl [Hma HFm_dst Hmb HFm HFm_src Hmc]
  · isplitl [Hma]; · iexact Hma
    isplitl [HFm_dst Hmb]
    · isplitl [HFm_dst]
      · iapply (mHome_arrived c _ _ _ _ gm₁ (em.trans (hm _).symm)); iexact HFm_dst
      iexact Hmb
    isplitl [HFm HFm_src]
    · isplitl [HFm]; · iexact HFm
      iexists _; iexact HFm_src
    iexists _, _
    isplitl [Hmc]; · iexact Hmc
    ipureintro
    exact (mslot_read _ _ _ _).trans (congrArg (fun x => maskOf x (wtV c arg1 fw) (biasV c arg2 fb)) (slot_rows _ (off12_eq k) _ _ _))
  · isplitl [Hpa]; · iexact Hpa
    isplitl [HFp_dst Hpb]
    · isplitl [HFp_dst]
      · iapply (pHome_arrived c _ _ _ _ gp₁ (ep.trans (hp _).symm)); iexact HFp_dst
      iexact Hpb
    isplitl [HFp HFp_src]
    · isplitl [HFp]; · iexact HFp
      iexists _; iexact HFp_src
    iexists _, _
    isplitl [Hpc]; · iexact Hpc
    ipureintro
    exact (pslot_read _ _ _ _).trans (congrArg (fun x => probOf x (wtV c arg1 fw) (biasV c arg2 fb)) (slot_rows _ (off12_eq k) _ _ _))

/-- The first trip: as in the middle, with no results to wait for. -/
theorem firstRun (hm : ∀ b, (mblk b).view.read (Elt F) gm₁ = vmOf c XA arg1 arg2 fw fb b) (hp : ∀ b, (pblk b).view.read (Elt F) gp₁ = vpOf c XA arg1 arg2 fw fb b)
    (k : Fin k0_t1_loop.trips) (h0 : k.val = 0) :
    tripRes c XA arg1 arg2 fw fb gm₀ gm₁ gp₀ gp₁ k.val
      ⊢ wp frame (wpE (defs₀ (F := F)) 𝒱₀ (c : Thread nD τ) none) Set.univ (tripP arg1 harg1 arg2 harg2 v10 v27 v29 k (words k.val))
          (fun acc => iprop(⌜acc = words (k.val + 1)⌝ ∗ tripRes c XA arg1 arg2 fw fb gm₀ gm₁ gp₀ gp₁ (k.val + 1))) := by
  have hk : k.val < 32 := by omega
  have h2 : k.val + 2 < 32 := by omega
  have c1 := chk1_ok k
  have c2 := chk2_ok k
  have c3 := chk3_ok k
  have c4 := chk4_ok k
  have d2 := cond2_pos k h2
  have d3 := cond3_pos k
  have d7 := cond7_pos k
  have d8 := cond8_pos k
  have d10 := cond10_neg k h0
  have d11 := cond11_neg k h0
  unfold tripRes xRing mRing pRing
  rw [Ring.At3_here _ _ _ _ k.val h2, Ring.AtB2_zero' _ _ _ _ _ k.val h0, Ring.AtB2_zero' _ _ _ _ _ k.val h0,
    Ring.At3_next _ _ _ _ k.val h2, Ring.slotAt3_next0 _ _ _ k.val (by omega), Ring.slotAt3_next1 _ _ _ k.val h2,
    Ring.AtB21_next_zero' _ _ _ _ k.val h0, Ring.AtB21_next_zero' _ _ _ _ k.val h0]
  iintro ⟨Hw, Hb, ⟨%W, HW⟩, ⟨⟨Hx, Hxr⟩, ⟨%f0, HF0⟩, ⟨%f1, HF1⟩, ⟨Hxc, ⟨%f2, Hxs⟩⟩⟩,
    ⟨⟨Hm, Hma⟩, ⟨Hmc, ⟨%fm, Hms⟩⟩, ⟨Hmf, Hmt⟩⟩, ⟨⟨Hp, Hpa⟩, ⟨Hpc, ⟨%fp, Hps⟩⟩, ⟨Hpf, Hpt⟩⟩⟩
  dsimp only [tripP]
  sl_unfold [k0_t1_body]
  sl_exec
  sl_step
  isplitr
  · ipureintro
    clear f0 f1 f2 fm fp; clear c1 c2 c3 c4 d2 d3 d7 d8 d10 d11 hk h2
    revert h0; revert k; simp only [words, Prod.mk.injEq]; decide +kernel
  isplitl [Hw]; · iexact Hw
  isplitl [Hb]; · iexact Hb
  isplitl [HW]; · iexists _; iexact HW
  isplitl [Hxr HF0_src HF1 Hxc HF0 HF0_dst]
  · isplitl [HF0_src Hxr]
    · isplitl [HF0_src]; · iexact HF0_src
      iexact Hxr
    isplitl [HF1]; · iexists _; iexact HF1
    isplitl [Hxc]; · iexists _; iexact Hxc
    isplitl [HF0]; · iexact HF0
    iexists _; iexact HF0_dst
  isplitl [Hma Hmf Hmt Hmc]
  · isplitl [Hma]; · iexact Hma
    isplitl [Hmf Hmt]
    · isplitl [Hmf]; · iexact Hmf
      iexact Hmt
    iexists _, _
    isplitl [Hmc]; · iexact Hmc
    ipureintro
    exact (mslot_read _ _ _ _).trans (congrArg (fun x => maskOf x (wtV c arg1 fw) (biasV c arg2 fb)) (slot_rows _ (off12_eq k) _ _ _))
  · isplitl [Hpa]; · iexact Hpa
    isplitl [Hpf Hpt]
    · isplitl [Hpf]; · iexact Hpf
      iexact Hpt
    iexists _, _
    isplitl [Hpc]; · iexact Hpc
    ipureintro
    exact (pslot_read _ _ _ _).trans (congrArg (fun x => probOf x (wtV c arg1 fw) (biasV c arg2 fb)) (slot_rows _ (off12_eq k) _ _ _))

/-- One of the last two trips: as in the middle, with no block to send for. -/
theorem lastRun (hm : ∀ b, (mblk b).view.read (Elt F) gm₁ = vmOf c XA arg1 arg2 fw fb b) (hp : ∀ b, (pblk b).view.read (Elt F) gp₁ = vpOf c XA arg1 arg2 fw fb b)
    (k : Fin k0_t1_loop.trips) (hk : k.val < 32) (h2 : 32 ≤ k.val + 2) :
    tripRes c XA arg1 arg2 fw fb gm₀ gm₁ gp₀ gp₁ k.val
      ⊢ wp frame (wpE (defs₀ (F := F)) 𝒱₀ (c : Thread nD τ) none) Set.univ (tripP arg1 harg1 arg2 harg2 v10 v27 v29 k (words k.val))
          (fun acc => iprop(⌜acc = words (k.val + 1)⌝ ∗ tripRes c XA arg1 arg2 fw fb gm₀ gm₁ gp₀ gp₁ (k.val + 1))) := by
  have h1 : 1 ≤ k.val := by omega
  have c1 := chk1_ok k
  have c2 := chk2_ok k
  have c3 := chk3_ok k
  have c4 := chk4_ok k
  have d2 := cond2_neg k (by omega)
  have d3 := cond3_pos k
  have d7 := cond7_pos k
  have d8 := cond8_pos k
  have d10 := cond10_pos k h1
  have d11 := cond11_pos k h1
  unfold tripRes xRing mRing pRing
  rw [Ring.At3_here_tail _ _ _ _ k.val hk, Ring.AtB21_here _ _ _ _ k.val h1 hk, Ring.AtB21_here _ _ _ _ k.val h1 hk,
    Ring.At3_next_tail _ _ _ _ k.val h2 hk, Ring.slotAt3_tail_role _ _ _ k.val,
    Ring.AtB21_next _ _ _ _ k.val h1 hk, Ring.AtB21_next _ _ _ _ k.val h1 hk]
  iintro ⟨Hw, Hb, ⟨%W, HW⟩, ⟨Hxr, ⟨%f0, HF0⟩, HF1, Hxf⟩,
    ⟨⟨Hm, Hma⟩, Hmb, ⟨Hmc, ⟨%fm, Hms⟩⟩, ⟨%fm', %gm', HFm, %em⟩⟩, ⟨⟨Hp, Hpa⟩, Hpb, ⟨Hpc, ⟨%fp, Hps⟩⟩, ⟨%fp', %gp', HFp, %ep⟩⟩⟩
  dsimp only [tripP]
  sl_unfold [k0_t1_body]
  sl_exec
  sl_step
  isplitr
  · ipureintro
    clear em ep; clear f0 fm fm' fp fp'; clear c1 c2 c3 c4 d2 d3 d7 d8 d10 d11 h1
    revert hk h2; revert k; simp only [words, Prod.mk.injEq]; decide +kernel
  isplitl [Hw]; · iexact Hw
  isplitl [Hb]; · iexact Hb
  isplitl [HW]; · iexists _; iexact HW
  isplitl [Hxr HF0_src HF1 Hxf HF0 HF0_dst]
  · isplitl [HF0_src Hxr]
    · isplitl [HF0_src]; · iexact HF0_src
      iexact Hxr
    isplitl [HF1]; · iexact HF1
    isplitl [Hxf]; · iexact Hxf
    isplitl [HF0]; · iexact HF0
    iexists _; iexact HF0_dst
  isplitl [Hma HFm_dst Hmb HFm HFm_src Hmc]
  · isplitl [Hma]; · iexact Hma
    isplitl [HFm_dst Hmb]
    · isplitl [HFm_dst]
      · iapply (mHome_arrived c _ _ _ _ gm₁ (em.trans (hm _).symm)); iexact HFm_dst
      iexact Hmb
    isplitl [HFm HFm_src]
    · isplitl [HFm]; · iexact HFm
      iexists _; iexact HFm_src
    iexists _, _
    isplitl [Hmc]; · iexact Hmc
    ipureintro
    exact (mslot_read _ _ _ _).trans (congrArg (fun x => maskOf x (wtV c arg1 fw) (biasV c arg2 fb)) (slot_rows _ (off12_eq k) _ _ _))
  · isplitl [Hpa]; · iexact Hpa
    isplitl [HFp_dst Hpb]
    · isplitl [HFp_dst]
      · iapply (pHome_arrived c _ _ _ _ gp₁ (ep.trans (hp _).symm)); iexact HFp_dst
      iexact Hpb
    isplitl [HFp HFp_src]
    · isplitl [HFp]; · iexact HFp
      iexists _; iexact HFp_src
    iexists _, _
    isplitl [Hpc]; · iexact Hpc
    ipureintro
    exact (pslot_read _ _ _ _).trans (congrArg (fun x => probOf x (wtV c arg1 fw) (biasV c arg2 fb)) (slot_rows _ (off12_eq k) _ _ _))

/-- The loop's invariant: before trip `k` the counters are `words k` and the core holds `tripRes k`. -/
theorem tripStep (hm : ∀ b, (mblk b).view.read (Elt F) gm₁ = vmOf c XA arg1 arg2 fw fb b) (hp : ∀ b, (pblk b).view.read (Elt F) gp₁ = vpOf c XA arg1 arg2 fw fb b)
    (k : Fin k0_t1_loop.trips) :
    tripRes c XA arg1 arg2 fw fb gm₀ gm₁ gp₀ gp₁ k.val
      ⊢ wp frame (wpE (defs₀ (F := F)) 𝒱₀ (c : Thread nD τ) none) Set.univ (tripP arg1 harg1 arg2 harg2 v10 v27 v29 k (words k.val))
          (fun acc => iprop(⌜acc = words (k.val + 1)⌝ ∗ tripRes c XA arg1 arg2 fw fb gm₀ gm₁ gp₀ gp₁ (k.val + 1))) := by
  have hk : k.val < 32 := k.isLt
  rcases Nat.eq_zero_or_pos k.val with h | h
  · exact firstRun c XA arg1 harg1 arg2 harg2 v10 v27 v29 fw fb gm₀ gm₁ gp₀ gp₁ hm hp k h
  · rcases Nat.lt_or_ge (k.val + 2) 32 with h2 | h2
    · exact midRun c XA arg1 harg1 arg2 harg2 v10 v27 v29 fw fb gm₀ gm₁ gp₀ gp₁ hm hp k h h2
    · exact lastRun c XA arg1 harg1 arg2 harg2 v10 v27 v29 fw fb gm₀ gm₁ gp₀ gp₁ hm hp k hk h2

end Trip

end Cert.KernelIdeal.Rows

end
-- ==== Proof.Ideal.Body.lean ====
/-
  The whole body: the first two blocks of the input sent for, the loop, and the wait for the last block of each result.
-/
module

public import proofs.«01_k».proof.Proof.Ideal.Trip

@[expose] public section

noncomputable section

namespace Cert.KernelIdeal.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Body

variable (c : Dev nD) (XA : Buf (Elt F) (xM.view.loc (c : Thread nD τ)))
  (arg1 : Memref sig .tc .vmem S4096x64 .f32) (harg1 : arg1.IsWhole)
  (arg2 : Memref sig .tc .vmem S1x64 .f32) (harg2 : arg2.IsWhole)
  (fw : Buf (Elt F) (arg1.view.loc (c : Thread nD τ))) (fb : Buf (Elt F) (arg2.view.loc (c : Thread nD τ)))
  (gm₀ gm₁ : Buf (Elt F) (maskM.view.loc (c : Thread nD τ))) (gp₀ gp₁ : Buf (Elt F) (probM.view.loc (c : Thread nD τ)))

/-- The kernel's body on its arrays and buffers. -/
abbrev bodyP : Prog (TpuEff nD τ sig (Elt F) Λ₀ .tc) PUnit :=
  cc0__outer (F := F) xM (Memref.isWhole_whole _) arg1 harg1 arg2 harg2 maskM (Memref.isWhole_whole _) probM (Memref.isWhole_whole _)
    xbufM (Memref.isWhole_whole _) cc0_scoped1 mbufM (Memref.isWhole_whole _) cc0_scoped3 pbufM (Memref.isWhole_whole _) cc0_scoped5

theorem trips_eq : Scf.trips k0_t1_loop.lb k0_t1_loop.ub k0_t1_loop.st = 32 := by decide +kernel

/-- The loop: 32 trips take what the core holds before the first to what it holds after the last. -/
theorem loopRun (v10 v27 : BitVec 32) (v29 : BitVec 1)
    (hm : ∀ b, (mblk b).view.read (Elt F) gm₁ = vmOf c XA arg1 arg2 fw fb b) (hp : ∀ b, (pblk b).view.read (Elt F) gp₁ = vpOf c XA arg1 arg2 fw fb b)
    {β : Type} (kk : _ → Prog (TpuEff nD τ sig (Elt F) Λ₀ .tc) β) (Q : β → sProp 𝕄) :
    iprop(tripRes c XA arg1 arg2 fw fb gm₀ gm₁ gp₀ gp₁ 0
        ∗ (tripRes c XA arg1 arg2 fw fb gm₀ gm₁ gp₀ gp₁ 32 -∗ wp frame (wpE (defs₀ (F := F)) 𝒱₀ (c : Thread nD τ) none) Set.univ (kk (words 32)) Q))
      ⊢ wp frame (wpE (defs₀ (F := F)) 𝒱₀ (c : Thread nD τ) none) Set.univ
          (k0_t1_loop.for k0_t1_ok (words 0) (k0_t1_body (F := F) xM (Memref.isWhole_whole _) arg1 harg1 arg2 harg2 maskM (Memref.isWhole_whole _) probM (Memref.isWhole_whole _)
            xbufM (Memref.isWhole_whole _) cc0_scoped1 mbufM (Memref.isWhole_whole _) cc0_scoped3 pbufM (Memref.isWhole_whole _) cc0_scoped5 v10 v27 v29) >>= kk) Q := by
  have h := Scf.wp_for_bind frame (wpE (defs₀ (F := F)) 𝒱₀ (c : Thread nD τ) none) Set.univ k0_t1_loop.lb k0_t1_loop.ub k0_t1_loop.st k0_t1_ok (words 0)
    (k0_t1_body (F := F) xM (Memref.isWhole_whole _) arg1 harg1 arg2 harg2 maskM (Memref.isWhole_whole _) probM (Memref.isWhole_whole _)
      xbufM (Memref.isWhole_whole _) cc0_scoped1 mbufM (Memref.isWhole_whole _) cc0_scoped3 pbufM (Memref.isWhole_whole _) cc0_scoped5 v10 v27 v29)
    (fun k acc => iprop(⌜acc = words k⌝ ∗ tripRes c XA arg1 arg2 fw fb gm₀ gm₁ gp₀ gp₁ k))
    (by
      intro k acc
      dsimp only
      iintro ⟨%e, H⟩
      subst e
      iapply (tripStep c XA arg1 harg1 arg2 harg2 v10 v27 v29 fw fb gm₀ gm₁ gp₀ gp₁ hm hp k)
      iexact H)
    (kk := kk) (Q := Q)
  rw [trips_eq] at h
  dsimp only at h
  iintro ⟨HT, Hk⟩
  ihave HL := h $$ [HT]
  · isplitr; · ipureintro; rfl
    iexact HT
  iapply HL
  iintro %acc ⟨%e, HT⟩
  subst e
  iapply Hk; iexact HT

/-- Before the first trip: blocks 0, 1 and 2 of the input apart from the rest, every slot free. -/
theorem x_open : Ring.At₀ (xCell c) (xSlot c) (xHome c XA)
    = iprop((xHome c XA 0 ∗ xHome c XA 1 ∗ xHome c XA (Ring.bk 32 (0 + 2)) ∗ bigSep ((Ring.homeSet 2 0).erase (Ring.bk 32 (0 + 2))) (xHome c XA))
        ∗ Ring.free (xCell c) (xSlot c) 0 ∗ Ring.free (xCell c) (xSlot c) 1 ∗ Ring.free (xCell c) (xSlot c) 2) :=
  Ring.At₀_eq3 (xHome c XA) (xCell c) (xSlot c) (by decide)

/-- The body: from its arrays whole, its slots free and the results at anything, to the results at the values of
    every block. -/
theorem bodyRun (hm : ∀ b, (mblk b).view.read (Elt F) gm₁ = vmOf c XA arg1 arg2 fw fb b) (hp : ∀ b, (pblk b).view.read (Elt F) gp₁ = vpOf c XA arg1 arg2 fw fb b)
    (W : Waits sig Unit) (Q : PUnit → sProp 𝕄) :
    iprop((wtP c arg1 fw ∗ biasP c arg2 fb ∗ owes (c : Thread nD τ) 0 W ∗ Ring.At₀ (xCell c) (xSlot c) (xHome c XA)
        ∗ Ring.AtB₀ (mFree c) (mHome c gm₀) ∗ Ring.AtB₀ (pFree c) (pHome c gp₀))
      ∗ ((wtP c arg1 fw ∗ biasP c arg2 fb ∗ (∃ W, owes (c : Thread nD τ) 0 W) ∗ Ring.At₀ (xCell c) (xSlot c) (xHome c XA)
        ∗ Ring.AtBEnd (mFree c) (mHome c gm₁) ∗ Ring.AtBEnd (pFree c) (pHome c gp₁)) -∗ Q ⟨⟩))
      ⊢ wp frame (wpE (defs₀ (F := F)) 𝒱₀ (c : Thread nD τ) none) Set.univ (bodyP arg1 harg1 arg2 harg2) Q := by
  iintro ⟨⟨Hw, Hb, HW, Hx, Hm, Hp⟩, Hk⟩
  ihave Hx' := (Entails.of_eq (x_open c XA)) $$ Hx
  icases Hx' with ⟨⟨Hx0, Hx1, Hx2, Hxr⟩, ⟨Hc0, ⟨%f0, Hs0⟩⟩, ⟨Hc1, ⟨%f1, Hs1⟩⟩, Hfree2⟩
  dsimp only [bodyP]
  sl_exec
  ihave HT : tripRes c XA arg1 arg2 fw fb gm₀ gm₁ gp₀ gp₁ 0 $$ [Hw Hb HW Hx2 Hxr Hfree2 Hm Hp Hc0 Hc1]
  · unfold tripRes xRing mRing pRing
    rw [Ring.At3_here _ _ _ _ 0 (by decide), Ring.AtB_zero, Ring.AtB_zero]
    isplitl [Hw]; · iexact Hw
    isplitl [Hb]; · iexact Hb
    isplitl [HW]; · iexists _; iexact HW
    isplitl [Hx2 Hxr Hc0 Hc1 Hfree2]
    · isplitl [Hx2 Hxr]
      · isplitl [Hx2]; · iexact Hx2
        iexact Hxr
      isplitl [Hc0]; · iexists _; iexact Hc0
      isplitl [Hc1]; · iexists _; iexact Hc1
      iexact Hfree2
    isplitl [Hm]; · iexact Hm
    iexact Hp
  iapply (loopRun c XA arg1 harg1 arg2 harg2 fw fb gm₀ gm₁ gp₀ gp₁ 1#32 1#32 1#1 hm hp)
  isplitl [HT]; · iexact HT
  have c5 := chk5_ok
  have c6 := chk6_ok
  have c7 := chk7_ok
  unfold tripRes xRing mRing pRing
  rw [Ring.At_last3, Ring.AtB21_end' _ _ _ _ 32 rfl (by decide), Ring.AtB21_end' _ _ _ _ 32 rfl (by decide)]
  iintro ⟨Hw, Hb, ⟨%W', HW⟩, ⟨Hx, Hf0, Hf1, Hf2⟩, ⟨Hmb, Hmf, ⟨%fm', %gm', HFm, %em⟩⟩, ⟨Hpb, Hpf, ⟨%fp', %gp', HFp, %ep⟩⟩⟩
  sl_exec
  sl_step
  iapply Hk
  isplitl [Hw]; · iexact Hw
  isplitl [Hb]; · iexact Hb
  isplitl [HW]; · iexists _; iexact HW
  isplitl [Hx Hf0 Hf1 Hf2]
  · unfold Ring.At₀
    isplitl [Hx]; · iexact Hx
    irw [Ring.bigSep_fin3]
    iapply (Ring.free3_of_roles (Ring.free (xCell c) (xSlot c)) 32)
    isplitl [Hf0]; · iexact Hf0
    isplitl [Hf1]; · iexact Hf1
    iexact Hf2
  isplitl [Hmb Hmf HFm_dst HFm_src HFm]
  · rw [Ring.AtB21_epilogue' _ _ 32 rfl (by decide)]
    isplitl [HFm_dst Hmb]
    · isplitl [HFm_dst]
      · iapply (mHome_arrived c _ _ _ _ gm₁ (em.trans (hm _).symm)); iexact HFm_dst
      iexact Hmb
    isplitl [Hmf]; · iexact Hmf
    isplitl [HFm]; · iexact HFm
    iexists _; iexact HFm_src
  · rw [Ring.AtB21_epilogue' _ _ 32 rfl (by decide)]
    isplitl [HFp_dst Hpb]
    · isplitl [HFp_dst]
      · iapply (pHome_arrived c _ _ _ _ gp₁ (ep.trans (hp _).symm)); iexact HFp_dst
      iexact Hpb
    isplitl [Hpf]; · iexact Hpf
    isplitl [HFp]; · iexact HFp
    iexists _; iexact HFp_src

end Body

end Cert.KernelIdeal.Rows

end
-- ==== Proof.Ideal.Blocks.lean ====
/-
  The arrays as their blocks, the buffers as their slots: what the launch hands over whole, in the pieces that the body
  holds, and back.
-/
module

public import proofs.«01_k».proof.Proof.Ideal.Body

@[expose] public section

noncomputable section

namespace Cert.KernelIdeal.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The element sets -/

abbrev XB (b : Fin 32) : Finset S16384x4096.Idx := (Rect.unit (s := S16384x4096) (xOff b) S512x4096.size (xOff_inb b)).set
abbrev XS (s : Fin 3) : Finset S3x512x4096.Idx := (Rect.unit (s := S3x512x4096) (xsOff s) S1x512x4096.size (xsOff_inb s)).set
abbrev RB (b : Fin 32) : Finset S32x1x512.Idx := (Rect.unit (s := S32x1x512) (rOff b) S1x1x512.size (rOff_inb b)).set
abbrev RS (s : Fin 2) : Finset S2x1x1x512.Idx := (Rect.unit (s := S2x1x1x512) (rsOff s) S1x1x1x512.size (rsOff_inb s)).set

theorem XB_disjoint : ∀ b b', b ≠ b' → Disjoint (XB b) (XB b') :=
  Ring.lead_disjoint (s := S16384x4096) 0 512 xOff S512x4096.size xOff_inb (fun _ => rfl) rfl
theorem XB_cover : Finset.univ.biUnion XB = Finset.univ :=
  Ring.lead_cover (s := S16384x4096) 0 512 xOff S512x4096.size xOff_inb (fun _ => rfl) (by decide +kernel) rfl (by decide +kernel) rfl
theorem XS_disjoint : ∀ b b', b ≠ b' → Disjoint (XS b) (XS b') :=
  Ring.lead_disjoint (s := S3x512x4096) 0 1 xsOff S1x512x4096.size xsOff_inb (fun _ => (Nat.one_mul _).symm) rfl
theorem XS_cover : Finset.univ.biUnion XS = Finset.univ :=
  Ring.lead_cover (s := S3x512x4096) 0 1 xsOff S1x512x4096.size xsOff_inb (fun _ => (Nat.one_mul _).symm) (by decide +kernel) rfl (by decide +kernel) rfl
theorem RB_disjoint : ∀ b b', b ≠ b' → Disjoint (RB b) (RB b') :=
  Ring.lead_disjoint (s := S32x1x512) 0 1 rOff S1x1x512.size rOff_inb (fun _ => (Nat.one_mul _).symm) rfl
theorem RB_cover : Finset.univ.biUnion RB = Finset.univ :=
  Ring.lead_cover (s := S32x1x512) 0 1 rOff S1x1x512.size rOff_inb (fun _ => (Nat.one_mul _).symm) (by decide +kernel) rfl (by decide +kernel) rfl
theorem RS_disjoint : ∀ b b', b ≠ b' → Disjoint (RS b) (RS b') :=
  Ring.lead_disjoint (s := S2x1x1x512) 0 1 rsOff S1x1x1x512.size rsOff_inb (fun _ => (Nat.one_mul _).symm) rfl
theorem RS_cover : Finset.univ.biUnion RS = Finset.univ :=
  Ring.lead_cover (s := S2x1x1x512) 0 1 rsOff S1x1x1x512.size rsOff_inb (fun _ => (Nat.one_mul _).symm) (by decide +kernel) rfl (by decide +kernel) rfl

theorem xblk_set (b : Fin 32) : (xblk b).view.set = XB b := View.set_slice_whole _ _
theorem xslot_set (s : Fin 3) : (xslot s).view.set = XS s := (View.set_reshape _ _).trans (View.set_slice_whole _ _)
theorem mblk_set (b : Fin 32) : (mblk b).view.set = RB b := View.set_slice_whole _ _
theorem mslot_set (s : Fin 2) : (mslot s).view.set = RS s := (View.set_reshape _ _).trans (View.set_slice_whole _ _)
theorem pblk_set (b : Fin 32) : (pblk b).view.set = RB b := View.set_slice_whole _ _
theorem pslot_set (s : Fin 2) : (pslot s).view.set = RS s := (View.set_reshape _ _).trans (View.set_slice_whole _ _)

section Split

variable (c : Dev nD)

/-! ## Arrays -/

theorem x_blocks (XA : Buf (Elt F) (xM.view.loc (c : Thread nD τ))) :
    (((c : Thread nD τ).loc main_call0_v0) ↦{fullShare} XA : sProp 𝕄) = bigSep Finset.univ (xHome c XA) := by
  rw [Ring.pointsTo_blocks (ℓ := (c : Thread nD τ).loc main_call0_v0) XB XB_disjoint XB_cover]
  exact bigSep_congr fun b _ => by rw [← xblk_set]; rfl
theorem m_blocks (g : Buf (Elt F) (maskM.view.loc (c : Thread nD τ))) :
    (((c : Thread nD τ).loc main_call0_v3_0) ↦{fullShare} g : sProp 𝕄) = bigSep Finset.univ (mHome c g) := by
  rw [Ring.pointsTo_blocks (ℓ := (c : Thread nD τ).loc main_call0_v3_0) RB RB_disjoint RB_cover]
  exact bigSep_congr fun b _ => by rw [← mblk_set]; rfl
theorem p_blocks (g : Buf (Elt F) (probM.view.loc (c : Thread nD τ))) :
    (((c : Thread nD τ).loc main_call0_v3_1) ↦{fullShare} g : sProp 𝕄) = bigSep Finset.univ (pHome c g) := by
  rw [Ring.pointsTo_blocks (ℓ := (c : Thread nD τ).loc main_call0_v3_1) RB RB_disjoint RB_cover]
  exact bigSep_congr fun b _ => by rw [← pblk_set]; rfl

/-! ## Buffers -/

theorem xSlot_eq (s : Fin 3) (f) : xSlot c s f = (((c : Thread nD τ).loc cc0_scoped0) ↦[XS s]{fullShare} f : sProp 𝕄) :=
  congrArg (fun S => (_ ↦[S]{fullShare} f : sProp 𝕄)) (xslot_set s)
theorem mSlot_eq (s : Fin 2) (f) : mSlot c s f = (((c : Thread nD τ).loc cc0_scoped2) ↦[RS s]{fullShare} f : sProp 𝕄) :=
  congrArg (fun S => (_ ↦[S]{fullShare} f : sProp 𝕄)) (mslot_set s)
theorem pSlot_eq (s : Fin 2) (f) : pSlot c s f = (((c : Thread nD τ).loc cc0_scoped4) ↦[RS s]{fullShare} f : sProp 𝕄) :=
  congrArg (fun S => (_ ↦[S]{fullShare} f : sProp 𝕄)) (pslot_set s)

/-- A buffer whole at anything is each of its pieces at anything, and back. -/
theorem pieces_split {ℓ : Loc nD τ sig} {n : ℕ} (I : Fin n → Finset (Idx ℓ)) (hd : ∀ b b', b ≠ b' → Disjoint (I b) (I b'))
    (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  have h1 : ∀ (f : Buf (Elt F) ℓ) (b : Fin n), (ℓ ↦[I b]{fullShare} f : sProp 𝕄) ⊢ iprop(∃ f : Buf (Elt F) ℓ, ℓ ↦[I b]{fullShare} f) := by
    intro f b; iintro H; iexists f; iexact H
  have hp : ∀ f : Buf (Elt F) ℓ, (bigSep Finset.univ fun b => (ℓ ↦[I b]{fullShare} f : sProp 𝕄))
      ⊢ bigSep Finset.univ fun b => iprop(∃ f : Buf (Elt F) ℓ, ℓ ↦[I b]{fullShare} f) := fun f => bigSep_mono fun b _ => h1 f b
  iintro ⟨%f, H⟩
  ihave H2 := (Entails.of_eq (Ring.pointsTo_blocks (Ix := Unit) (Name := ℕ) (U := Pipeline.UD sig nD τ) (Lvl := ℕ) (q := fullShare) I hd hc f)) $$ H
  iapply (hp f)
  iexact H2
theorem pieces_join {ℓ : Loc nD τ sig} {n : ℕ} (I : Fin n → Finset (Idx ℓ)) (hd : ∀ b b', b ≠ b' → Disjoint (I b) (I b'))
    (hc : Finset.univ.biUnion I = Finset.univ) (f₀ : Buf (Elt F) ℓ) :
    (bigSep Finset.univ fun b => iprop(∃ f : Buf (Elt F) ℓ, ℓ ↦[I b]{fullShare} f) : sProp 𝕄) ⊢ iprop(∃ f : Buf (Elt F) ℓ, ℓ ↦{fullShare} f) :=
  Ring.pointsTo_blocks_join_exists I hd hc f₀

end Split

end Cert.KernelIdeal.Rows

end
-- ==== Proof.Ideal.Launch.lean ====
/-
  What the launch hands over and what it gets back: the two results' arrays at the values of every block (`maskArr`,
  `probArr`), and the buffers, the semaphores and the arrays that the kernel moves by hand, whole and in pieces.
-/
module

public import proofs.«01_k».proof.Proof.Ideal.Blocks
public import proofs.«01_k».proof.Proof.Gen.KernelIdeal.Frame

@[expose] public section

noncomputable section

namespace Cert.KernelIdeal.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the results hold at the end -/

/-- The kernel's input, weights and bias as the pallas_call finds them. -/
abbrev xArr (c : Dev nD) : Buf (Elt F) (xM.view.loc (c : Thread nD τ)) := V m c main_call0_v0
abbrev wtArr (c : Dev nD) : Vec F S4096x64 .f32 := V m c main_call0_v1
abbrev bArr (c : Dev nD) : Vec F S1x64 .f32 := V m c main_call0_v2

/-- The place of an element of a result within its block. -/
def within (y : S32x1x512.Idx) : S1x1x512.Idx := fun a => match a with
  | ⟨0, _⟩ => (0 : Fin 1)
  | ⟨1, _⟩ => (0 : Fin 1)
  | ⟨2, _⟩ => (⟨(y 2).val, (y 2).isLt⟩ : Fin 512)
/-- Its block. -/
def blockNo (y : S32x1x512.Idx) : Fin 32 := ⟨(y 0).val, (y 0).isLt⟩

/-- The chosen experts and their probabilities, all blocks. -/
def maskArr (c : Dev nD) : Buf (Elt F) (maskM.view.loc (c : Thread nD τ)) :=
  fun y => maskOf (rows c (xArr m c) (blockNo y)) (wtArr m c) (bArr m c) (within y)
def probArr (c : Dev nD) : Buf (Elt F) (probM.view.loc (c : Thread nD τ)) :=
  fun y => probOf (rows c (xArr m c) (blockNo y)) (wtArr m c) (bArr m c) (within y)

/-- An element of block `b`, in the block and in the array. -/
theorem blk_coord (b : Fin 32) (j : S1x1x512.Idx) (y : S32x1x512.Idx) (h0 : (y 0).val = b.val + 1 * (j 0).val) (h2 : (y 2).val = 0 + 1 * (j 2).val) :
    blockNo y = b ∧ within y = j := by
  have e0 : (j 0).val < 1 := (j 0).isLt
  have e1 : (j 1).val < 1 := (j 1).isLt
  refine ⟨Fin.ext (by unfold blockNo; dsimp only; omega), funext fun a => ?_⟩
  fin_cases a
  · exact Fin.ext (show 0 = (j 0).val by omega)
  · exact Fin.ext (show 0 = (j 1).val by omega)
  · exact Fin.ext (show (y 2).val = (j 2).val by omega)

/-- An element of a block of a result, read through the block. -/
theorem mblk_read (c : Dev nD) (g : Buf (Elt F) (maskM.view.loc (c : Thread nD τ))) (b : Fin 32) (j : S1x1x512.Idx) :
    (mblk b).view.read (Elt F) g j = g ((Rect.unit (s := S32x1x512) (rOff b) S1x1x512.size (rOff_inb b)).emb j) := rfl
theorem pblk_read (c : Dev nD) (g : Buf (Elt F) (probM.view.loc (c : Thread nD τ))) (b : Fin 32) (j : S1x1x512.Idx) :
    (pblk b).view.read (Elt F) g j = g ((Rect.unit (s := S32x1x512) (rOff b) S1x1x512.size (rOff_inb b)).emb j) := rfl

theorem maskArr_read (c : Dev nD) (b : Fin 32) : (mblk b).view.read (Elt F) (maskArr m c) = maskOf (rows c (xArr m c) b) (wtArr m c) (bArr m c) := by
  funext j
  obtain ⟨h, h'⟩ := blk_coord b j (((Rect.unit (s := S32x1x512) (rOff b) S1x1x512.size (rOff_inb b)).emb j)) rfl rfl
  rw [mblk_read]
  unfold maskArr
  rw [h, h']
theorem probArr_read (c : Dev nD) (b : Fin 32) : (pblk b).view.read (Elt F) (probArr m c) = probOf (rows c (xArr m c) b) (wtArr m c) (bArr m c) := by
  funext j
  obtain ⟨h, h'⟩ := blk_coord b j (((Rect.unit (s := S32x1x512) (rOff b) S1x1x512.size (rOff_inb b)).emb j)) rfl rfl
  rw [pblk_read]
  unfold probArr
  rw [h, h']

/-- Every buffer's contents when the pallas_call is over. -/
def G (c : Dev nD) : (b : Ref sig .tc) → Buf (Elt F) ((c.tc : Thread nD τ).loc b) :=
  Function.update (Function.update (V m c) main_call0_v3_0 (maskArr m c)) main_call0_v3_1 (probArr m c)
theorem G_mask (c : Dev nD) : G m c main_call0_v3_0 = maskArr m c := by
  unfold G; rw [Function.update_of_ne (by decide), Function.update_self]
theorem G_prob (c : Dev nD) : G m c main_call0_v3_1 = probArr m c := by
  unfold G; rw [Function.update_self]

/-! ## The kernel's own semaphores, and the arrays it moves by hand -/

abbrev osem : Fin 7 → SemLoc sig := fun
  | 0 => .dma (xsem 0).sem | 1 => .dma (xsem 1).sem | 2 => .dma (xsem 2).sem
  | 3 => .dma (msem 0).sem | 4 => .dma (msem 1).sem | 5 => .dma (psem 0).sem | 6 => .dma (psem 1).sem
theorem ownSemFacts : Pipeline.OwnSemFacts spec0 osem := by decide

abbrev handIn : Finset (Ref sig .tc) := {main_call0_v0}
abbrev handOut : Finset (Ref sig .tc) := {main_call0_v3_0, main_call0_v3_1}
theorem handIn_rest : handIn ⊆ Pipeline.restRefs sig spec0 := by
  intro b hb; rw [Finset.mem_singleton] at hb; subst hb; exact Pipeline.mem_restRefs_of _ (by decide) (by decide)
theorem handOut_rest : handOut ⊆ Pipeline.restRefs sig spec0 \ handIn := by
  intro b hb
  rw [Finset.mem_insert, Finset.mem_singleton] at hb
  rcases hb with rfl | rfl
  · exact Finset.mem_sdiff.mpr ⟨Pipeline.mem_restRefs_of _ (by decide) (by decide), by decide⟩
  · exact Finset.mem_sdiff.mpr ⟨Pipeline.mem_restRefs_of _ (by decide) (by decide), by decide⟩

theorem ownSems0_eq (c : Dev nD) : (Pipeline.ownSems0 (Ix := Unit) (Name := ℕ) (U := Pipeline.UD sig nD τ) (Lvl := ℕ) (Val := Elt F) (τ := τ) osem c : sProp 𝕄)
    = iprop(xCell c 0 ∗ xCell c 1 ∗ xCell c 2 ∗ mCell c 0 ∗ mCell c 1 ∗ pCell c 0 ∗ pCell c 1) := by
  unfold Pipeline.ownSems0
  exact bigSep_univ_eq_bigSepL [(0 : Fin 7), 1, 2, 3, 4, 5, 6] (by decide) (by decide) _

/-- What the kernel moves by hand, whole, with the two results' arrays at `A`. -/
abbrev hand (A : (c : Dev nD) → (b : Ref sig .tc) → Buf (Elt F) ((c.tc : Thread nD τ).loc b)) (c : Dev nD) : sProp 𝕄 :=
  Pipeline.ΦDRV osem spec0 handIn handOut (V m) A c

theorem hand_eq (A : (c : Dev nD) → (b : Ref sig .tc) → Buf (Elt F) ((c.tc : Thread nD τ).loc b)) (c : Dev nD) :
    hand m A c = iprop(((∃ f : Buf (Elt F) ((c : Thread nD τ).loc cc0_scoped0), ((c : Thread nD τ).loc cc0_scoped0) ↦{fullShare} f)
        ∗ (∃ f : Buf (Elt F) ((c : Thread nD τ).loc cc0_scoped2), ((c : Thread nD τ).loc cc0_scoped2) ↦{fullShare} f)
        ∗ (∃ f : Buf (Elt F) ((c : Thread nD τ).loc cc0_scoped4), ((c : Thread nD τ).loc cc0_scoped4) ↦{fullShare} f))
      ∗ (xCell c 0 ∗ xCell c 1 ∗ xCell c 2 ∗ mCell c 0 ∗ mCell c 1 ∗ pCell c 0 ∗ pCell c 1)
      ∗ (bigSep Finset.univ (xHome c (xArr m c)))
      ∗ bigSep Finset.univ (mHome c (A c main_call0_v3_0)) ∗ bigSep Finset.univ (pHome c (A c main_call0_v3_1))) := by
  unfold hand Pipeline.ΦDRV
  rw [scopedRest0_eq, ownSems0_eq, bigSep_singleton, bigSep_insert (by decide), bigSep_singleton, ← x_blocks, ← m_blocks, ← p_blocks]
  rfl

/-- Slots at anything with their semaphores at zero, and the buffer whole with the semaphores. -/
theorem free_of_parts {n : ℕ} {ℓ : Loc nD τ sig} (cell : Fin n → sProp 𝕄) (S : Fin n → Finset (Idx ℓ))
    (hd : ∀ b b', b ≠ b' → Disjoint (S b) (S b')) (hc : Finset.univ.biUnion S = Finset.univ) :
    iprop(bigSep Finset.univ cell ∗ ∃ f : Buf (Elt F) ℓ, ℓ ↦{fullShare} f)
      ⊢ bigSep Finset.univ fun s => iprop(cell s ∗ ∃ f : Buf (Elt F) ℓ, ℓ ↦[S s]{fullShare} f) := by
  rw [bigSep_sep']
  iintro ⟨Hc, Hf⟩
  isplitl [Hc]
  · iexact Hc
  iapply (pieces_split S hd hc)
  iexact Hf
theorem parts_of_free {n : ℕ} {ℓ : Loc nD τ sig} (cell : Fin n → sProp 𝕄) (S : Fin n → Finset (Idx ℓ))
    (hd : ∀ b b', b ≠ b' → Disjoint (S b) (S b')) (hc : Finset.univ.biUnion S = Finset.univ) (f₀ : Buf (Elt F) ℓ) :
    (bigSep Finset.univ fun s => iprop(cell s ∗ ∃ f : Buf (Elt F) ℓ, ℓ ↦[S s]{fullShare} f))
      ⊢ iprop(bigSep Finset.univ cell ∗ ∃ f : Buf (Elt F) ℓ, ℓ ↦{fullShare} f) := by
  rw [bigSep_sep']
  iintro ⟨Hc, Hf⟩
  isplitl [Hc]
  · iexact Hc
  iapply (pieces_join S hd hc f₀)
  iexact Hf

theorem xFree_eq (c : Dev nD) (s : Fin 3) : Ring.free (xCell (F := F) c) (xSlot c) s
    = iprop(xCell c s ∗ ∃ f : Buf (Elt F) ((c : Thread nD τ).loc cc0_scoped0), ((c : Thread nD τ).loc cc0_scoped0) ↦[XS s]{fullShare} f) :=
  congrArg (fun S => iprop(xCell c s ∗ ∃ f : Buf (Elt F) ((c : Thread nD τ).loc cc0_scoped0), ((c : Thread nD τ).loc cc0_scoped0) ↦[S]{fullShare} f)) (xslot_set s)
theorem mFree_eq (c : Dev nD) (s : Fin 2) : mFree (F := F) c s
    = iprop(mCell c s ∗ ∃ f : Buf (Elt F) ((c : Thread nD τ).loc cc0_scoped2), ((c : Thread nD τ).loc cc0_scoped2) ↦[RS s]{fullShare} f) :=
  congrArg (fun S => iprop(mCell c s ∗ ∃ f : Buf (Elt F) ((c : Thread nD τ).loc cc0_scoped2), ((c : Thread nD τ).loc cc0_scoped2) ↦[S]{fullShare} f)) (mslot_set s)
theorem pFree_eq (c : Dev nD) (s : Fin 2) : pFree (F := F) c s
    = iprop(pCell c s ∗ ∃ f : Buf (Elt F) ((c : Thread nD τ).loc cc0_scoped4), ((c : Thread nD τ).loc cc0_scoped4) ↦[RS s]{fullShare} f) :=
  congrArg (fun S => iprop(pCell c s ∗ ∃ f : Buf (Elt F) ((c : Thread nD τ).loc cc0_scoped4), ((c : Thread nD τ).loc cc0_scoped4) ↦[S]{fullShare} f)) (pslot_set s)

/-- Everything that the kernel moves by hand, as the body wants it. -/
abbrev pieces (A : (c : Dev nD) → (b : Ref sig .tc) → Buf (Elt F) ((c.tc : Thread nD τ).loc b)) (c : Dev nD) : sProp 𝕄 :=
  iprop(Ring.At₀ (xCell c) (xSlot c) (xHome c (xArr m c)) ∗ Ring.AtB₀ (mFree c) (mHome c (A c main_call0_v3_0))
      ∗ Ring.AtB₀ (pFree c) (pHome c (A c main_call0_v3_1)))

theorem pieces_eq (A : (c : Dev nD) → (b : Ref sig .tc) → Buf (Elt F) ((c.tc : Thread nD τ).loc b)) (c : Dev nD) :
    pieces m A c = iprop((bigSep Finset.univ (xHome c (xArr m c)) ∗ bigSep Finset.univ fun s => iprop(xCell c s
          ∗ ∃ f : Buf (Elt F) ((c : Thread nD τ).loc cc0_scoped0), ((c : Thread nD τ).loc cc0_scoped0) ↦[XS s]{fullShare} f))
      ∗ (bigSep Finset.univ (mHome c (A c main_call0_v3_0)) ∗ bigSep Finset.univ fun s => iprop(mCell c s
          ∗ ∃ f : Buf (Elt F) ((c : Thread nD τ).loc cc0_scoped2), ((c : Thread nD τ).loc cc0_scoped2) ↦[RS s]{fullShare} f))
      ∗ (bigSep Finset.univ (pHome c (A c main_call0_v3_1)) ∗ bigSep Finset.univ fun s => iprop(pCell c s
          ∗ ∃ f : Buf (Elt F) ((c : Thread nD τ).loc cc0_scoped4), ((c : Thread nD τ).loc cc0_scoped4) ↦[RS s]{fullShare} f))) := by
  unfold pieces Ring.At₀ Ring.AtB₀
  rw [bigSep_congr fun s _ => xFree_eq c s, bigSep_congr fun s _ => mFree_eq c s, bigSep_congr fun s _ => pFree_eq c s]

theorem hand_eq' (A : (c : Dev nD) → (b : Ref sig .tc) → Buf (Elt F) ((c.tc : Thread nD τ).loc b)) (c : Dev nD) :
    hand m A c = iprop(((∃ f : Buf (Elt F) ((c : Thread nD τ).loc cc0_scoped0), ((c : Thread nD τ).loc cc0_scoped0) ↦{fullShare} f)
        ∗ (∃ f : Buf (Elt F) ((c : Thread nD τ).loc cc0_scoped2), ((c : Thread nD τ).loc cc0_scoped2) ↦{fullShare} f)
        ∗ (∃ f : Buf (Elt F) ((c : Thread nD τ).loc cc0_scoped4), ((c : Thread nD τ).loc cc0_scoped4) ↦{fullShare} f))
      ∗ (bigSep Finset.univ (xCell c) ∗ bigSep Finset.univ (mCell c) ∗ bigSep Finset.univ (pCell c))
      ∗ (bigSep Finset.univ (xHome c (xArr m c)))
      ∗ bigSep Finset.univ (mHome c (A c main_call0_v3_0)) ∗ bigSep Finset.univ (pHome c (A c main_call0_v3_1))) := by
  rw [hand_eq, Ring.bigSep_fin3, Ring.bigSep_fin2, Ring.bigSep_fin2]
  have e : ∀ P Q R : sProp 𝕄, iprop((P ∗ Q) ∗ R) = iprop(P ∗ Q ∗ R) := fun _ _ _ => equiv_iff.mp ⟨BI.sep_assoc, BI.sep_assoc'⟩
  simp only [e]

theorem hand_open (A : (c : Dev nD) → (b : Ref sig .tc) → Buf (Elt F) ((c.tc : Thread nD τ).loc b)) (c : Dev nD) :
    hand m A c ⊢ pieces m A c := by
  rw [hand_eq', pieces_eq]
  iintro ⟨⟨Hx, Hm, Hp⟩, ⟨Cx, Cm, Cp⟩, X, M, P⟩
  isplitl [Hx Cx X]
  · isplitl [X]
    · iexact X
    iapply (free_of_parts (ℓ := (c : Thread nD τ).loc cc0_scoped0) (xCell c) XS XS_disjoint XS_cover)
    isplitl [Cx]
    · iexact Cx
    iexact Hx
  isplitl [Hm Cm M]
  · isplitl [M]
    · iexact M
    iapply (free_of_parts (ℓ := (c : Thread nD τ).loc cc0_scoped2) (mCell c) RS RS_disjoint RS_cover)
    isplitl [Cm]
    · iexact Cm
    iexact Hm
  isplitl [P]
  · iexact P
  iapply (free_of_parts (ℓ := (c : Thread nD τ).loc cc0_scoped4) (pCell c) RS RS_disjoint RS_cover)
  isplitl [Cp]
  · iexact Cp
  iexact Hp

theorem hand_close (A : (c : Dev nD) → (b : Ref sig .tc) → Buf (Elt F) ((c.tc : Thread nD τ).loc b)) (c : Dev nD) :
    pieces m A c ⊢ hand m A c := by
  rw [hand_eq', pieces_eq]
  iintro ⟨⟨X, Fx⟩, ⟨M, Fm⟩, ⟨P, Fp⟩⟩
  ihave ⟨Cx, Hx⟩ := (parts_of_free (ℓ := (c : Thread nD τ).loc cc0_scoped0) (xCell c) XS XS_disjoint XS_cover (fun _ => FloatOps.ofBits (F := F) .f32 0#32)) $$ Fx
  ihave ⟨Cm, Hm⟩ := (parts_of_free (ℓ := (c : Thread nD τ).loc cc0_scoped2) (mCell c) RS RS_disjoint RS_cover (fun _ => (0#32 : BitVec 32))) $$ Fm
  ihave ⟨Cp, Hp⟩ := (parts_of_free (ℓ := (c : Thread nD τ).loc cc0_scoped4) (pCell c) RS RS_disjoint RS_cover (fun _ => FloatOps.ofBits (F := F) .f32 0#32)) $$ Fp
  isplitl [Hx Hm Hp]
  · isplitl [Hx]
    · iexact Hx
    isplitl [Hm]
    · iexact Hm
    iexact Hp
  isplitl [Cx Cm Cp]
  · isplitl [Cx]
    · iexact Cx
    isplitl [Cm]
    · iexact Cm
    iexact Cp
  isplitl [X]
  · iexact X
  isplitl [M]
  · iexact M
  iexact P

end Cert.KernelIdeal.Rows

end
-- ==== Proof.Ideal.Run.lean ====
/-
  The launch: the host's lines, the pallas_call over the whole arrays, the host's lines after it. The run ends with the
  two results at the values of every block, the third at its constant and the arguments as they were, whatever the
  float values are.
-/
module

public import proofs.«01_k».proof.Proof.Ideal.Launch
public import Idealize.ShloMosaic.Lib.Pipeline.Value

@[expose] public section

noncomputable section

namespace Cert.KernelIdeal.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pallas_call's data -/

/-- Before its one point everything moved by hand is as the host left it, after it the results are there. -/
abbrev atPoint (c : Dev nD) (n : ℕ) : sProp 𝕄 := hand m (if n = 0 then V m else G m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := atPoint m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-! ## The staged weights and bias are the whole arrays -/

theorem wt_block (c : Dev nD) (t : Fin cfg0.N) : iblk m c 0 t = wtArr m c := by
  funext j
  have e : ((win0_0.rect t).emb j) = j := funext fun a => Fin.ext (Pipeline.Window.rect_emb_val_of_index_zero win0_0 t a rfl j)
  exact congrArg (wtArr m c) e
theorem bias_block (c : Dev nD) (t : Fin cfg0.N) : iblk m c 1 t = bArr m c := by
  funext j
  have e : ((win0_1.rect t).emb j) = j := funext fun a => Fin.ext (Pipeline.Window.rect_emb_val_of_index_zero win0_1 t a rfl j)
  exact congrArg (bArr m c) e

theorem wt_staged (c : Dev nD) (t : Fin cfg0.N) : wtV c (st0_0 t) ((st0_0 t).view.rep (iblk m c 0 t)) = wtArr m c :=
  (View.readAt_full _ _ _).trans ((View.read_rep _ _).trans (wt_block m c t))
theorem bias_staged (c : Dev nD) (t : Fin cfg0.N) : biasV c (st0_1 t) ((st0_1 t).view.rep (iblk m c 1 t)) = bArr m c :=
  (View.readAt_full _ _ _).trans ((View.read_rep _ _).trans (bias_block m c t))

theorem mask_ok (c : Dev nD) (t : Fin cfg0.N) (b : Fin 32) : (mblk b).view.read (Elt F) (maskArr m c)
    = vmOf c (xArr m c) (st0_0 t) (st0_1 t) ((st0_0 t).view.rep (iblk m c 0 t)) ((st0_1 t).view.rep (iblk m c 1 t)) b := by
  unfold vmOf; rw [wt_staged, bias_staged]; exact maskArr_read m c b
theorem prob_ok (c : Dev nD) (t : Fin cfg0.N) (b : Fin 32) : (pblk b).view.read (Elt F) (probArr m c)
    = vpOf c (xArr m c) (st0_0 t) (st0_1 t) ((st0_0 t).view.rep (iblk m c 0 t)) ((st0_1 t).view.rep (iblk m c 1 t)) b := by
  unfold vpOf; rw [wt_staged, bias_staged]; exact probArr_read m c b

/-! ## The body -/

theorem defs_tc : (defs₀ (F := F)) .tc cfg0.body
    = fun a => bodyP (win0_0.stage (a.2 0)) (hstage0_0 0) (win0_1.stage (a.2 1)) (hstage0_1 0) := rfl
theorem prog_eq (t : Fin cfg0.N) : (defs₀ (F := F)) .tc cfg0.body (cfg0.bodyArgs t (cfg0.slots t))
    = bodyP (st0_0 t) (hstage0_0 0) (st0_1 t) (hstage0_1 0) :=
  (congrFun defs_tc _).trans rfl

theorem point_open (c : Dev nD) (t : Fin cfg0.N) : (dats m 0 c).Φ t.castSucc ⊢ pieces m (V m) c := by
  have h : t.castSucc.val = 0 := by rw [fin_N0 t]; rfl
  show atPoint m c t.castSucc.val ⊢ _
  unfold atPoint; rw [if_pos h]; exact hand_open m (V m) c
theorem point_close (c : Dev nD) (t : Fin cfg0.N) : iprop(Ring.At₀ (xCell c) (xSlot c) (xHome c (xArr m c))
      ∗ Ring.AtBEnd (mFree c) (mHome c (maskArr m c)) ∗ Ring.AtBEnd (pFree c) (pHome c (probArr m c))) ⊢ (dats m 0 c).Φ t.succ := by
  have h : ¬ t.succ.val = 0 := Nat.succ_ne_zero _
  show _ ⊢ atPoint m c t.succ.val
  unfold atPoint; rw [if_neg h, ← G_mask m c, ← G_prob m c]; exact hand_close m (G m) c

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, Hw⟩, ⟨%d1, %g1, %hg1, Hb⟩⟩
  ihave ⟨Hx, Hm, Hp⟩ := (point_open m c t) $$ HΦ
  ihave Hw' := (pointsTo_rep_entails (c : Thread nD τ) (st0_0 t) g0 fullShare) $$ Hw
  ihave Hb' := (pointsTo_rep_entails (c : Thread nD τ) (st0_1 t) g1 fullShare) $$ Hb
  rw [hg0, hg1]
  sl_rw [prog_eq t]
  iapply (bodyRun c (xArr m c) (st0_0 t) (hstage0_0 0) (st0_1 t) (hstage0_1 0) ((st0_0 t).view.rep (iblk m c 0 t)) ((st0_1 t).view.rep (iblk m c 1 t))
    (V m c main_call0_v3_0) (maskArr m c) (V m c main_call0_v3_1) (probArr m c) (mask_ok m c t) (prob_ok m c t) W)
  isplitl [Hw' Hb' HW Hx Hm Hp]
  · isplitl [Hw']; · iexact Hw'
    isplitl [Hb']; · iexact Hb'
    isplitl [HW]; · iexact HW
    isplitl [Hx]; · iexact Hx
    isplitl [Hm]; · iexact Hm
    iexact Hp
  · iintro ⟨Hw, Hb, ⟨%W', HW⟩, Hx, Hm, Hp⟩
    isplitl [Hx Hm Hp]
    · iapply (point_close m c t)
      isplitl [Hx]; · iexact Hx
      isplitl [Hm]; · iexact Hm
      iexact Hp
    isplitl [HW]
    · iexists W'; isplitr; · ipureintro; exact fun _ _ => Or.inl trivial
      iexact HW
    isplitl [Hw]
    · iexists _; isplitr; · ipureintro; exact View.read_rep _ _
      iexact Hw
    iexists _; isplitr; · ipureintro; exact View.read_rep _ _
    iexact Hb

end Cert.KernelIdeal.Rows

end
-- ==== Proof.Ideal.Result.lean ====
/-
  The run: it ends, with the arguments as they were, the semaphores at zero, the two results at the reshaped arrays of
  block values, the third at its constant.
-/
module

public import proofs.«01_k».proof.Proof.Ideal.Run

@[expose] public section

noncomputable section

namespace Cert.KernelIdeal.Rows

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers between the pallas_call and the host's last lines. -/
abbrev between (c : Dev nD) : Valuation τ sig (Elt F) :=
  Pipeline.withArrays spec0 c (Pipeline.withR (V0 m c) handOut c (G m c)) fun w => (dats m 0 c).arrAt w cfg0.N

theorem between_mask (c : Dev nD) : between m c (Proc.devRef .tc main_call0_v3_0) = maskArr m c := by
  unfold between
  rw [Pipeline.withArrays_of_ne spec0 c _ _ main_call0_v3_0 (by exact (by decide : ∀ w, Pipeline.arrRef spec0 w ≠ main_call0_v3_0)),
    Pipeline.withR_of_mem _ _ _ _ main_call0_v3_0 (by decide)]
  exact G_mask m c
theorem between_prob (c : Dev nD) : between m c (Proc.devRef .tc main_call0_v3_1) = probArr m c := by
  unfold between
  rw [Pipeline.withArrays_of_ne spec0 c _ _ main_call0_v3_1 (by exact (by decide : ∀ w, Pipeline.arrRef spec0 w ≠ main_call0_v3_1)),
    Pipeline.withR_of_mem _ _ _ _ main_call0_v3_1 (by decide)]
  exact G_prob m c
/-- A buffer that neither the pallas_call nor the host's last lines write. -/
theorem end_kept (c : Dev nD) (b : Ref sig .tc) (ha : ∀ w, Pipeline.arrRef spec0 w ≠ b) (hr : b ∉ handOut) (hw : b ∉ [main_v0_0, main_v0_1, main_v0_2]) :
    StableHlo.after [hostOps1].flatten (between m c) (Proc.devRef .tc b) = V0 m c (Proc.devRef .tc b) := by
  rw [StableHlo.after_of_writes_sub (W := [main_v0_0, main_v0_1, main_v0_2]) _ _ (StableHlo.forall_writes_sub_of_map rfl) hw]
  unfold between
  rw [Pipeline.withArrays_of_ne spec0 c _ _ b ha, Pipeline.withR_of_not_mem _ _ _ _ b hr]
theorem end_mask (c : Dev nD) : StableHlo.after [hostOps1].flatten (between m c) (Proc.devRef .tc main_v0_0)
    = shapeCast S4x4096 (maskArr m c) shapeCasts_S32x1x512_S4x4096 := by
  rw [← between_mask m c]
  generalize between m c = W
  show StableHlo.after hostOps1 W (Proc.devRef .tc main_v0_0) = _
  after_results
  rfl
theorem end_prob (c : Dev nD) : StableHlo.after [hostOps1].flatten (between m c) (Proc.devRef .tc main_v0_1)
    = shapeCast S4x4096 (probArr m c) shapeCasts_S32x1x512_S4x4096 := by
  rw [← between_prob m c]
  generalize between m c = W
  show StableHlo.after hostOps1 W (Proc.devRef .tc main_v0_1) = _
  after_results
  rfl
theorem end_loss (c : Dev nD) : StableHlo.after [hostOps1].flatten (between m c) (Proc.devRef .tc main_v0_2)
    = (constant S_ .f32 0x00000000#32 : FVec F S_ .f32) := by
  generalize between m c = W
  show StableHlo.after hostOps1 W (Proc.devRef .tc main_v0_2) = _
  after_results
  rfl

set_option maxHeartbeats 800000 in
theorem main_around : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the run ends with on a core. -/
def Ends (c : Dev nD) (s : MemSt nD τ sig (Elt F)) : Prop :=
  (s.mem ((c.tc : Thread nD τ).loc main_v0_0) = shapeCast S4x4096 (maskArr m c) shapeCasts_S32x1x512_S4x4096
    ∧ s.mem ((c.tc : Thread nD τ).loc main_v0_1) = shapeCast S4x4096 (probArr m c) shapeCasts_S32x1x512_S4x4096
    ∧ s.mem ((c.tc : Thread nD τ).loc main_v0_2) = (constant S_ .f32 0x00000000#32 : FVec F S_ .f32))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

theorem run_main : θ_run defs (onTc (τ := τ) (main (F := F))) ⟨m, fun _ => 0, ρ⟩ (fun r => (∀ c, Ends m c r.2) ∧ r.2.sem = fun _ => 0) :=
  Pipeline.θ_run_frame_dmaR_aroundV cfgs (dats m) 0 launch0 osem defs₀ 𝒱₀ ownSemFacts handIn handOut handIn_rest handOut_rest m ρ main
    (fun c => (body_obligation m c).loose) (fun c => (dats m 0 c).share_full fun _ => rfl) (fun _ _ => rfl)
    (V0 m) [hostOps1] sfx_sub sfx_fresh sfx_keeps (G m) (main_around m) (fun _ _ => rfl) (fun _ => .rfl) (fun _ => .rfl)
    (Q' := fun r => (∀ c, Ends m c r.2) ∧ r.2.sem = fun _ => 0)
    (hQ' := fun r h => ⟨fun c => by
      have hb := (h.1 c).2
      refine ⟨⟨?_, ?_, ?_⟩, ?_, ?_, ?_⟩
      · exact (hb main_v0_0 (Pipeline.mem_restRefs_of _ (by decide) (by decide))).trans (end_mask m c)
      · exact (hb main_v0_1 (Pipeline.mem_restRefs_of _ (by decide) (by decide))).trans (end_prob m c)
      · exact (hb main_v0_2 (Pipeline.mem_restRefs_of _ (by decide) (by decide))).trans (end_loss m c)
      · exact (hb main_arg0 (Pipeline.mem_restRefs_of _ (by decide) (by decide))).trans
          ((end_kept m c main_arg0 (by decide) (by decide) (by decide)).trans (V_main_arg0 m c))
      · exact (hb main_arg1 (Pipeline.mem_restRefs_of _ (by decide) (by decide))).trans
          ((end_kept m c main_arg1 (by decide) (by decide) (by decide)).trans (V_main_arg1 m c))
      · exact (hb main_arg2 (Pipeline.mem_restRefs_of _ (by decide) (by decide))).trans
          ((end_kept m c main_arg2 (by decide) (by decide) (by decide)).trans (V_main_arg2 m c)), h.2⟩)

end Cert.KernelIdeal.Rows

end
-- ==== Proof.Value.Words.lean ====
/-
  The two infinities that the programs write as float words.
-/
module

public import Idealize.ShloMosaic.PureOps.Ideal

@[expose] public section

noncomputable section

namespace Words

open Idealize.ShloMosaic

/-- The word for −∞ is the least extended real. -/
theorem ofBits_negInf : Ideal.ofBits .f32 0xFF800000#32 = (⊥ : EReal) := by
  show Ideal.ieee 8 23 0xFF800000#32 = _
  unfold Ideal.ieee
  simp

/-- The word for +∞ is the greatest extended real. -/
theorem ofBits_posInf : Ideal.ofBits .f32 0x7F800000#32 = (⊤ : EReal) := by
  show Ideal.ieee 8 23 0x7F800000#32 = _
  unfold Ideal.ieee
  simp

end Words

end
-- ==== Proof.Value.Block.lean ====
/-
  What the kernel computes from one block, element by element: for row `t` the least index of the greatest logit, and
  one over the sum of the exponentials of the logits less the greatest.
-/
module

public import proofs.«01_k».proof.Proof.Ideal.Pieces
public import proofs.«01_k».proof.Proof.Value.Words
public import Idealize.ShloMosaic.PureOps.Ideal
public import Idealize.ShloMosaic.Lib.Pointwise

@[expose] public section

set_option maxRecDepth 16384

noncomputable section

namespace Cert.KernelIdeal.Rows

open Cert.KernelIdeal Cert.KernelIdeal.Gen
open Idealize.ShloMosaic
open Words (ofBits_negInf)

variable (x : FVec Ideal S512x4096 .f32) (wt : Vec Ideal S4096x64 .f32) (b : Vec Ideal S1x64 .f32)

/-- The logits of row `t`. -/
def rowLogits (t : Fin 512) (e : Fin 64) : EReal := (∑ k : Fin 4096, x (ix2 t k) * wt (ix2 k e)) + b (ix2 0 e)

/-- The chosen expert of row `t`: the least index at which the greatest logit stands. -/
theorem maskOf_apply (t : Fin 512) : maskOf x wt b (ix3 0 0 t) = Finset.univ.fold IntOp.minsi (2147483647#32)
    (fun e : Fin 64 => if rowLogits x wt b t e = Finset.univ.fold max ⊥ (rowLogits x wt b t) then BitVec.ofNat 32 e.val else 64#32) := by
  rw [← ofBits_negInf]
  unfold rowLogits
  pointwise [k0_pay4, k0_pay3, k0_pay2]

/-- Its probability: one over the sum of the exponentials of the logits less the greatest. -/
theorem probOf_apply (t : Fin 512) : probOf x wt b (ix3 0 0 t)
    = Ideal.div 1 (∑ e : Fin 64, Ideal.exp (rowLogits x wt b t e - Finset.univ.fold max ⊥ (rowLogits x wt b t))) := by
  rw [← ofBits_negInf]
  unfold rowLogits
  pointwise [k0_pay5, k0_pay3, k0_pay2]

end Cert.KernelIdeal.Rows

end
-- ==== Proof.Value.Arrays.lean ====
/-
  The kernel's two results at one token, in the arguments. Token `(i, s)` is row `4096 i + s` of the reshaped input: row
  `t` of block `b` where `512 b + t` is that number, and element `(b, 0, t)` of a result's array.
-/
module

public import proofs.«01_k».proof.Proof.Ideal.Launch
public import proofs.«01_k».proof.Proof.Value.Block

@[expose] public section

set_option maxRecDepth 16384

noncomputable section

namespace Cert.KernelIdeal.Rows

open Cert.KernelIdeal Cert.KernelIdeal.Gen
open Idealize.ShloMosaic
open Idealize.ShloMosaic.TcCoe Idealize.ShloMosaic.Tactic
open Idealize.SL.Sem

variable (m : (ℓ : Loc nD τ sig) → Buf (Elt Ideal) ℓ) (c : Dev nD)

/-! ## The arrays the pallas_call finds -/

/-- The arguments: tokens, weights, bias. -/
abbrev xArg : FVec Ideal S4x4096x4096 .f32 := m ((c.tc : Thread nD τ).loc main_arg0)
abbrev wArg : FVec Ideal S64x4096 .f32 := m ((c.tc : Thread nD τ).loc main_arg1)
abbrev bArg : FVec Ideal S64 .f32 := m ((c.tc : Thread nD τ).loc main_arg2)

/-- The host reshapes the tokens, transposes the weights and reshapes the bias. -/
theorem xArr_eq : xArr m c = shapeCast S16384x4096 (xArg m c) shapeCasts_S4x4096x4096_S16384x4096 := by
  show StableHlo.after hostOps0 _ (Proc.devRef .tc main_call0_v0) = _
  after_results
  rfl
theorem wtArr_eq : wtArr m c = transpose S4096x64 [1, 0] (wArg m c) transposes_S64x4096_S4096x64_1_0 := by
  show StableHlo.after hostOps0 _ (Proc.devRef .tc main_call0_v1) = _
  after_results
  rfl
theorem bArr_eq : bArr m c = shapeCast S1x64 (bArg m c) shapeCasts_S64_S1x64 := by
  show StableHlo.after hostOps0 _ (Proc.devRef .tc main_call0_v2) = _
  after_results
  rfl

/-! ## A token's block and row -/

/-- The block of token `(i, s)`, and its row there. -/
def tokenBlock (i : Fin 4) (s : Fin 4096) : Fin 32 := ⟨(4096 * i.val + s.val) / 512, by omega⟩
def tokenRow (i : Fin 4) (s : Fin 4096) : Fin 512 := ⟨(4096 * i.val + s.val) % 512, by omega⟩

/-- Row `t` of block `b` is row `512 b + t` of the input. -/
theorem rows_apply (XA : Buf (Elt Ideal) (xM.view.loc (c : Thread nD τ))) (b : Fin 32) (t : Fin 512) (k : Fin 4096) :
    rows c XA b (ix2 t k) = XA (ix2 (⟨512 * b.val + t.val, by omega⟩ : Fin 16384) k) := by
  show XA ((Rect.unit (s := S16384x4096) (xOff b) S512x4096.size (xOff_inb b)).emb (ix2 t k)) = _
  refine congrArg XA (funext fun a => Fin.ext ?_)
  match a with
  | ⟨0, _⟩ =>
    show 512 * b.val + 1 * t.val = 512 * b.val + t.val
    omega
  | ⟨1, _⟩ =>
    show 0 + 1 * k.val = k.val
    omega

/-- The reshaped input at the row of a token. -/
theorem reshape_token {α : Type} (X : S4x4096x4096.Idx → α) (i : Fin 4) (s k : Fin 4096) :
    shapeCast S16384x4096 X shapeCasts_S4x4096x4096_S16384x4096
      (ix2 (⟨512 * (tokenBlock i s).val + (tokenRow i s).val, by unfold tokenBlock tokenRow; dsimp only; omega⟩ : Fin 16384) k) = X (ix3 i s k) := by
  rw [Pointwise.shapeCast_apply]
  refine congrArg X (Shape.reshapeEquiv_eq_of_vals _ _ _ _ _ (rowMajor_val3 _ 16777216 4096 rfl rfl) (rowMajor_val2 _ 4096 rfl) ?_)
  show i.val * 16777216 + s.val * 4096 + k.val = (512 * ((4096 * i.val + s.val) / 512) + (4096 * i.val + s.val) % 512) * 4096 + k.val
  omega

/-- A reshaped result at a token. -/
theorem reshape_result {α : Type} (Y : S32x1x512.Idx → α) (i : Fin 4) (s : Fin 4096) :
    shapeCast S4x4096 Y shapeCasts_S32x1x512_S4x4096 (ix2 i s) = Y (ix3 (tokenBlock i s) (0 : Fin 1) (tokenRow i s)) := by
  rw [Pointwise.shapeCast_apply]
  refine congrArg Y (Shape.reshapeEquiv_eq_of_vals _ _ _ _ _ (rowMajor_val3 _ 512 512 rfl rfl) (rowMajor_val2 _ 4096 rfl) ?_)
  show (4096 * i.val + s.val) / 512 * 512 + 0 * 512 + (4096 * i.val + s.val) % 512 = i.val * 4096 + s.val
  omega

/-- The input, the weights and the bias that the kernel multiplies and adds, in the arguments. -/
theorem x_apply (i : Fin 4) (s k : Fin 4096) : rows c (xArr m c) (tokenBlock i s) (ix2 (tokenRow i s) k) = xArg m c (ix3 i s k) := by
  rw [rows_apply, xArr_eq]
  exact reshape_token (xArg m c) i s k
theorem w_apply (k : Fin 4096) (e : Fin 64) : wtArr m c (ix2 k e) = wArg m c (ix2 e k) := by
  rw [wtArr_eq]
  pointwise
theorem b_apply (e : Fin 64) : bArr m c (ix2 0 e) = bArg m c (ix1 e) := by
  rw [bArr_eq]
  pointwise

/-- The logits of token `(i, s)`, as the kernel computes them. -/
theorem rowLogits_apply (i : Fin 4) (s : Fin 4096) (e : Fin 64) :
    rowLogits (rows c (xArr m c) (tokenBlock i s)) (wtArr m c) (bArr m c) (tokenRow i s) e
      = (∑ k : Fin 4096, xArg m c (ix3 i s k) * wArg m c (ix2 e k)) + bArg m c (ix1 e) := by
  unfold rowLogits
  rw [b_apply]
  congr 1
  exact Finset.sum_congr rfl fun k _ => by rw [x_apply, w_apply]

/-! ## The results at a token -/

/-- A token's place in its block. -/
theorem within_token (b : Fin 32) (t : Fin 512) : within (ix3 b (0 : Fin 1) t) = ix3 0 0 t := by
  funext a
  match a with
  | ⟨0, _⟩ => rfl
  | ⟨1, _⟩ => rfl
  | ⟨2, _⟩ => rfl

/-- The two results at a token are its block's values at its row. -/
theorem mask_apply (i : Fin 4) (s : Fin 4096) : shapeCast S4x4096 (maskArr m c) shapeCasts_S32x1x512_S4x4096 (ix2 i s)
    = maskOf (rows c (xArr m c) (tokenBlock i s)) (wtArr m c) (bArr m c) (ix3 0 0 (tokenRow i s)) := by
  refine (reshape_result (maskArr m c) i s).trans ?_
  unfold maskArr
  rw [within_token]
  rfl
theorem prob_apply (i : Fin 4) (s : Fin 4096) : shapeCast S4x4096 (probArr m c) shapeCasts_S32x1x512_S4x4096 (ix2 i s)
    = probOf (rows c (xArr m c) (tokenBlock i s)) (wtArr m c) (bArr m c) (ix3 0 0 (tokenRow i s)) := by
  refine (reshape_result (probArr m c) i s).trans ?_
  unfold probArr
  rw [within_token]
  rfl

end Cert.KernelIdeal.Rows

end
-- ==== Proof.Value.Reference.lean ====
/-
  The reference's run. Its results are named by stages: the logits, the chosen expert of each token, the softmax over
  the experts, and the softmax's value at the chosen expert.
-/
module

public import proofs.«01_k».proof.Proof.Gen.ReferenceIdeal
public import Idealize.ShloMosaic.PureOps.Ideal
public import Idealize.ShloMosaic.Lib.Claim
public import Idealize.ShloMosaic.Lib.StableHlo.RunHlo

@[expose] public section

noncomputable section

namespace Cert.ReferenceIdeal.Stages

open Cert.ReferenceIdeal Cert.ReferenceIdeal.Gen
open Idealize.ShloMosaic
open Idealize.ShloMosaic.TcCoe Idealize.ShloMosaic.Tactic
open Idealize.SL Idealize.SL.Sem

/-- The logits: tokens times the transposed weights, plus the bias. -/
def logits (x : FVec Ideal S4x4096x4096 .f32) (w : FVec Ideal S64x4096 .f32) (b : FVec Ideal S64 .f32) : FVec Ideal S4x4096x64 .f32 :=
  addf (Host.dotGeneral dot_S4x4096x4096_S4096x64_S4x4096x64_2_0_01_1_n_n none x (transpose S4096x64 [1, 0] w transposes_S64x4096_S4096x64_1_0))
    (broadcastInDim S4x4096x64 ![0, 1, 2] bcast_S1x1x64_S4x4096x64_0_1_2 (broadcastInDim S1x1x64 ![2] bcast_S64_S1x1x64_2 b))

/-- The chosen expert of each token: the arg-max of its logits. -/
def chosen (l : FVec Ideal S4x4096x64 .f32) : IVec S4x4096 32 := fun j =>
  (Host.argReduce reducer_argmax_f32_i32 l (iotaInDim S4x4096x64 32 2) (constant S_ .f32 0xFF800000#32) (constantI S_ 32 0#32)
    reducesTo_S4x4096x64_S4x4096_d2 h_S_ j).2

/-- The greatest logit of each token, spread over the experts. -/
def greatest (l : FVec Ideal S4x4096x64 .f32) : FVec Ideal S4x4096x64 .f32 :=
  broadcastInDim S4x4096x64 ![0, 1, 2] bcast_S4x4096x1_S4x4096x64_0_1_2 (broadcastInDim S4x4096x1 ![0, 1] bcast_S4x4096_S4x4096x1_0_1
    (maximumf (broadcastInDim S4x4096 ![] bcast_S_S4x4096 (constant S_ .f32 0xFF800000#32))
      (Host.reduce FloatOps.maximumf l (constant S_ .f32 0xFF800000#32) reducesTo_S4x4096x64_S4x4096_d2 h_S_)))

/-- The exponentials of the logits less the greatest. -/
def weights (l : FVec Ideal S4x4096x64 .f32) : FVec Ideal S4x4096x64 .f32 := Host.exp (subf l (greatest l))

/-- The softmax over the experts. -/
def soft (l : FVec Ideal S4x4096x64 .f32) : FVec Ideal S4x4096x64 .f32 :=
  Host.divf (weights l) (broadcastInDim S4x4096x64 ![0, 1, 2] bcast_S4x4096x1_S4x4096x64_0_1_2
    (broadcastInDim S4x4096x1 ![0, 1] bcast_S4x4096_S4x4096x1_0_1
      (Host.reduceAdd (weights l) (constant S_ .f32 0x00000000#32) reducesTo_S4x4096x64_S4x4096_d2 h_S_)))

/-- An index column with its negative entries counted from the end, under a further axis. -/
def place (i : IVec S4x4096x1 32) : IVec S4x4096x1x1 32 :=
  shapeCast S4x4096x1x1 (select (cmpi .slt i (broadcastInDim S4x4096x1 ![] bcast_S_S4x4096x1 (constantI S_ 32 0#32)))
    (addi i (broadcastInDim S4x4096x1 ![] bcast_S_S4x4096x1 (constantI S_ 32 64#32))) i) shapeCasts_S4x4096x1_S4x4096x1x1

/-- Whether a place lies among the experts. -/
def inRange (k : IVec S4x4096x1x1 32) : IVec S4x4096x1 1 :=
  Host.reduce IntOp.andi (andi (cmpi .sge k (broadcastInDim S4x4096x1x1 ![] bcast_S_S4x4096x1x1 (constantI S_ 32 0#32)))
    (cmpi .sle k (broadcastInDim S4x4096x1x1 ![0, 1, 2, 3] bcast_S1x1x1x1_S4x4096x1x1_0_1_2_3
      (broadcastInDim S1x1x1x1 ![3] bcast_S1_S1x1x1x1_3 (constantI S1 32 63#32)))))
    (constantI S_ 1 1#1) reducesTo_S4x4096x1x1_S4x4096x1_d3 h_S_

/-- A table's value at each token's index. -/
def picked (p : FVec Ideal S4x4096x64 .f32) (i : IVec S4x4096x1 32) : FVec Ideal S4x4096x1 .f32 :=
  select (inRange (place i)) (Host.gather gather_S4x4096x64_S4x4096x1x1_S4x4096x1_n_2_01_01_2_3_111 p (place i))
    (broadcastInDim S4x4096x1 ![] bcast_S_S4x4096x1 (constant S_ .f32 0x7FC00000#32))

/-- The chosen expert's probability. -/
def prob (l : FVec Ideal S4x4096x64 .f32) : FVec Ideal S4x4096 .f32 :=
  shapeCast S4x4096 (picked (soft l) (broadcastInDim S4x4096x1 ![0, 1] bcast_S4x4096_S4x4096x1_0_1 (chosen l))) shapeCasts_S4x4096x1_S4x4096

variable (m : (ℓ : Loc nD τ sig) → Buf (Elt Ideal) ℓ) (g : Dev nD → PrngReg)

/-- The logits of a device's arguments. -/
abbrev logitsAt (c : Dev nD) : FVec Ideal S4x4096x64 .f32 :=
  logits (m ((c.tc : Thread nD τ).loc main_arg0)) (m ((c.tc : Thread nD τ).loc main_arg1)) (m ((c.tc : Thread nD τ).loc main_arg2))

/-- The reference ends with the chosen experts, their probabilities and the constant zero. -/
theorem run :
    θ_run (defs (F := Ideal)) (onTc (τ := τ) (main (F := Ideal))) ⟨m, fun _ => 0, g⟩ (fun r => ∀ c : Dev nD,
      r.2.mem ((c.tc : Thread nD τ).loc main_v5) = chosen (logitsAt m c)
      ∧ r.2.mem ((c.tc : Thread nD τ).loc main_v19) = prob (logitsAt m c)
      ∧ r.2.mem ((c.tc : Thread nD τ).loc main_cst_2) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  · with_unfolding_all rfl
  · simp only [StableHlo.TRef.ofBuf_toBuf, StableHlo.TRef.ofBuf, StableHlo.TRef.toBuf, cast_eq]
    unfold prob picked inRange place soft weights greatest chosen logitsAt logits
    rfl

end Cert.ReferenceIdeal.Stages
end
-- ==== Proof.Value.Choice.lean ====
/-
  The first greatest of 64 extended reals: what `First l e` says, and that the two ways of finding it agree. The kernel
  takes the maximum, then the least index at which the maximum stands. The reference folds pairs (value, index) and
  keeps the greater value, at equal values the smaller index.
-/
module

public import Idealize.ShloMosaic.PureOps.Ideal
public import Idealize.ShloMosaic.PureOps.Ideal.Laws
public import Idealize.ShloMosaic.Lib.SortNet.Extract
public import proofs.«01_k».proof.ReferenceIdeal

@[expose] public section

noncomputable section

namespace Choice

open Idealize.ShloMosaic

/-- `l` is greatest at `e`, and at no place before. -/
structure First (l : Fin 64 → EReal) (e : Fin 64) : Prop where
  top : ∀ k, l k ≤ l e
  first : ∀ k, l k = l e → e ≤ k

/-- An expert's number as a 32-bit word. -/
abbrev word (e : Fin 64) : BitVec 32 := BitVec.ofNat 32 e.val

theorem toInt_word (e : Fin 64) : (word e).toInt = e.val := by
  have h := e.isLt
  rw [BitVec.toInt_eq_toNat_of_lt (by rw [BitVec.toNat_ofNat]; omega), BitVec.toNat_ofNat]
  omega

/-! ## The maximum, then the least index -/

section Least

variable {l : Fin 64 → EReal} {e : Fin 64}

/-- The maximum. -/
theorem First.max_eq (h : First l e) : Finset.univ.fold max ⊥ l = l e :=
  le_antisymm (Finset.fold_max_le _ |>.2 ⟨bot_le, fun k _ => h.top k⟩) (Finset.le_fold_max _ |>.2 (.inr ⟨e, Finset.mem_univ e, le_rfl⟩))

/-- A fold of the signed minimum, in integers. -/
theorem toInt_fold_minsi (g : Fin 64 → BitVec 32) (b : BitVec 32) :
    (Finset.univ.fold IntOp.minsi b g).toInt = Finset.univ.fold min b.toInt fun k => (g k).toInt :=
  (Finset.fold_hom (op := IntOp.minsi) (op' := min) (m := BitVec.toInt) SortNet.toInt_minsi).symm

/-- The least index at which the maximum stands, 64 standing for the places where it does not. -/
theorem First.min_eq (h : First l e) : Finset.univ.fold IntOp.minsi (2147483647#32)
    (fun k => if l k = Finset.univ.fold max ⊥ l then word k else 64#32) = word e := by
  apply BitVec.eq_of_toInt_eq
  rw [toInt_fold_minsi, h.max_eq, toInt_word]
  have he := e.isLt
  refine le_antisymm ((Finset.fold_min_le _).2 (.inr ⟨e, Finset.mem_univ e, ?_⟩)) ((Finset.le_fold_min _).2 ⟨?_, fun k _ => ?_⟩)
  · rw [if_pos rfl, toInt_word]
  · show (e.val : ℤ) ≤ 2147483647
    omega
  · by_cases hk : l k = l e
    · rw [if_pos hk, toInt_word]
      have := Fin.le_def.mp (h.first k hk)
      omega
    · rw [if_neg hk]
      show (e.val : ℤ) ≤ 64
      omega

end Least

/-! ## The fold of pairs -/

/-- `p` is chosen before `q`, or is `q`: its value is greater, or the values are equal and its index is not greater. -/
def Before (p q : EReal × BitVec 32) : Prop := q.1 < p.1 ∨ (p.1 = q.1 ∧ p.2.toInt ≤ q.2.toInt)

theorem Before.rfl' (p : EReal × BitVec 32) : Before p p := .inr ⟨rfl, le_rfl⟩
theorem Before.trans {p q r : EReal × BitVec 32} (h : Before p q) (h' : Before q r) : Before p r := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

/-- The reference's reducer keeps one of its two pairs, the one chosen before the other. -/
theorem reducer_keeps (a b : EReal × BitVec 32) :
    (Cert.ReferenceIdeal.reducer_argmax_f32_i32 (F := Ideal) a b = a ∧ Before a b)
    ∨ (Cert.ReferenceIdeal.reducer_argmax_f32_i32 (F := Ideal) a b = b ∧ Before b a) := by
  obtain ⟨x, i⟩ := a
  obtain ⟨y, j⟩ := b
  rcases lt_trichotomy y x with h | rfl | h
  · refine .inl ⟨?_, .inl h⟩
    simp [Cert.ReferenceIdeal.reducer_argmax_f32_i32, Ideal.cmpf_def, Ideal.cmp, h, h.ne', Scalar.select, IntOp.ori, IntOp.andi]
  · by_cases hi : i.toInt < j.toInt
    · refine .inl ⟨?_, .inr ⟨rfl, hi.le⟩⟩
      simp [Cert.ReferenceIdeal.reducer_argmax_f32_i32, Ideal.cmpf_def, Ideal.cmp, Scalar.select, IntOp.ori, IntOp.andi, IntOp.cmpi,
        BitVec.slt, hi]
    · refine .inr ⟨?_, .inr ⟨rfl, not_lt.mp hi⟩⟩
      simp [Cert.ReferenceIdeal.reducer_argmax_f32_i32, Ideal.cmpf_def, Ideal.cmp, Scalar.select, IntOp.ori, IntOp.andi, IntOp.cmpi,
        BitVec.slt, hi]
  · refine .inr ⟨?_, .inl h⟩
    simp [Cert.ReferenceIdeal.reducer_argmax_f32_i32, Ideal.cmpf_def, Ideal.cmp, h.not_gt, h.ne, Scalar.select, IntOp.ori, IntOp.andi]

/-- The fold over a list gives the start or a pair of the list, one that is chosen before all of them. -/
theorem foldl_keeps (L : List (EReal × BitVec 32)) (a : EReal × BitVec 32) :
    L.foldl (Cert.ReferenceIdeal.reducer_argmax_f32_i32 (F := Ideal)) a ∈ a :: L
    ∧ ∀ p ∈ a :: L, Before (L.foldl (Cert.ReferenceIdeal.reducer_argmax_f32_i32 (F := Ideal)) a) p := by
  induction L generalizing a with
  | nil => exact ⟨List.mem_singleton.2 rfl, fun p hp => List.mem_singleton.1 hp ▸ Before.rfl' _⟩
  | cons b L ih =>
    rw [List.foldl_cons]
    obtain ⟨hm, hb⟩ := ih (Cert.ReferenceIdeal.reducer_argmax_f32_i32 (F := Ideal) a b)
    have hr := hb _ List.mem_cons_self
    have hab : Before (Cert.ReferenceIdeal.reducer_argmax_f32_i32 (F := Ideal) a b) a
        ∧ Before (Cert.ReferenceIdeal.reducer_argmax_f32_i32 (F := Ideal) a b) b
        ∧ (Cert.ReferenceIdeal.reducer_argmax_f32_i32 (F := Ideal) a b = a ∨ Cert.ReferenceIdeal.reducer_argmax_f32_i32 (F := Ideal) a b = b) := by
      rcases reducer_keeps a b with ⟨h, h'⟩ | ⟨h, h'⟩
      · exact ⟨h.symm ▸ Before.rfl' a, h.symm ▸ h', .inl h⟩
      · exact ⟨h.symm ▸ h', h.symm ▸ Before.rfl' b, .inr h⟩
    refine ⟨?_, fun p hp => ?_⟩
    · rcases List.mem_cons.1 hm with h | h
      · rcases hab.2.2 with h' | h' <;> rw [h, h'] <;> simp
      · exact List.mem_cons_of_mem _ (List.mem_cons_of_mem _ h)
    · rcases List.mem_cons.1 hp with rfl | hp
      · exact hr.trans hab.1
      rcases List.mem_cons.1 hp with rfl | hp
      · exact hr.trans hab.2.1
      · exact hb p (List.mem_cons_of_mem _ hp)

/-- Over a list of the pairs `(l k, k)`, started below all of them, the fold gives the pair of the first greatest. -/
theorem fold_first {l : Fin 64 → EReal} (hl : ∀ k, ⊥ < l k) (L : List (EReal × BitVec 32)) (hL : ∀ p, p ∈ L ↔ ∃ k, p = (l k, word k)) :
    ∃ e, First l e ∧ (L.foldl (Cert.ReferenceIdeal.reducer_argmax_f32_i32 (F := Ideal)) ((⊥ : EReal), 0#32)).2 = word e := by
  obtain ⟨hm, hb⟩ := foldl_keeps L ((⊥ : EReal), 0#32)
  have hb' : ∀ k, Before (L.foldl (Cert.ReferenceIdeal.reducer_argmax_f32_i32 (F := Ideal)) ((⊥ : EReal), 0#32)) (l k, word k) :=
    fun k => hb _ (List.mem_cons_of_mem _ ((hL _).2 ⟨k, rfl⟩))
  rcases List.mem_cons.1 hm with h | h
  · exfalso
    rcases h ▸ hb' 0 with h0 | ⟨h0, -⟩
    · exact not_lt_bot h0
    · exact (hl 0).ne h0
  · obtain ⟨e, he⟩ := (hL _).1 h
    rw [he] at hb' ⊢
    refine ⟨e, ⟨fun k => ?_, fun k hk => ?_⟩, rfl⟩
    · rcases hb' k with h | ⟨h, -⟩
      · exact h.le
      · exact h.symm.le
    · rcases hb' k with h | ⟨-, h⟩
      · exact absurd hk h.ne
      · have h' : (word e).toInt ≤ (word k).toInt := h
        rw [toInt_word, toInt_word] at h'
        exact Fin.le_def.mpr (by omega)

/-! ## The value of the softmax at the first greatest -/

/-- The exponential of the greatest less itself is one. -/
theorem First.weight {l : Fin 64 → EReal} (e : Fin 64) (h : l e ≠ ⊥) (h' : l e ≠ ⊤) : Ideal.exp (l e - l e) = 1 := by
  lift l e to ℝ using ⟨h', h⟩ with r
  rw [← EReal.coe_sub, sub_self]
  show ((Real.exp 0 : ℝ) : EReal) = 1
  rw [Real.exp_zero, EReal.coe_one]

end Choice

end
-- ==== Proof.Value.Fetch.lean ====
/-
  The reference's look-up of a table at each token's index: at an index among the 64 experts it gives the table's value
  there.
-/
module

public import proofs.«01_k».proof.Proof.Value.Reference
public import proofs.«01_k».proof.Proof.Value.Choice
public import Idealize.ShloMosaic.Lib.Pointwise

@[expose] public section

set_option maxRecDepth 16384

noncomputable section

namespace Cert.ReferenceIdeal.Stages

open Cert.ReferenceIdeal Cert.ReferenceIdeal.Gen
open Idealize.ShloMosaic
open Choice (word toInt_word)

/-! ## A table's value at an index -/

/-- The gather reads the table at the token and at the expert that the index names. -/
theorem gather_apply (p : FVec Ideal S4x4096x64 .f32) (k : IVec S4x4096x1x1 32) (i : Fin 4) (s : Fin 4096) (e : Fin 64) (hk : k (ix4 i s 0 0) = word e) :
    Host.gather gather_S4x4096x64_S4x4096x1x1_S4x4096x1_n_2_01_01_2_3_111 p k (ix3 i s 0) = p (ix3 i s e) := by
  unfold Host.gather
  refine congrArg p (funext fun a => Fin.ext ?_)
  match a with
  | ⟨0, _⟩ =>
    show GatherDims.start _ _ _ 0 + GatherDims.batchCoord _ _ 0 + GatherDims.offCoord _ _ 0 = i.val
    rw [GatherDims.start_batching _ _ _ _ (by decide), GatherDims.offCoord_eq_zero _ _ _ (by decide), Nat.zero_add, Nat.add_zero]
    rfl
  | ⟨1, _⟩ =>
    show GatherDims.start _ _ _ 1 + GatherDims.batchCoord _ _ 1 + GatherDims.offCoord _ _ 1 = s.val
    rw [GatherDims.start_batching _ _ _ _ (by decide), GatherDims.offCoord_eq_zero _ _ _ (by decide), Nat.zero_add, Nat.add_zero]
    rfl
  | ⟨2, _⟩ =>
    show GatherDims.start _ _ _ 2 + GatherDims.batchCoord _ _ 2 + GatherDims.offCoord _ _ 2 = e.val
    rw [GatherDims.batchCoord_eq_zero _ _ _ (by decide), GatherDims.offCoord_eq_zero _ _ _ (by decide), Nat.add_zero]
    unfold GatherDims.start
    rw [dif_pos (by decide)]
    have hs : GatherDims.siIdx gather_S4x4096x64_S4x4096x1x1_S4x4096x1_n_2_01_01_2_3_111 (ix3 i s 0) ⟨0, by decide⟩ = ix4 i s 0 0 := by
      funext a
      match a with
      | ⟨0, _⟩ => rfl
      | ⟨1, _⟩ => rfl
      | ⟨2, _⟩ => rfl
      | ⟨3, _⟩ => rfl
    show min ((k (GatherDims.siIdx gather_S4x4096x64_S4x4096x1x1_S4x4096x1_n_2_01_01_2_3_111 (ix3 i s 0) ⟨0, by decide⟩)).toInt.toNat) 63 = e.val
    rw [hs, hk, toInt_word]
    have := e.isLt
    omega

/-- An expert's number is not negative, so it is its own place. -/
theorem place_apply (k : IVec S4x4096x1 32) (i : Fin 4) (s : Fin 4096) (e : Fin 64) (hk : k (ix3 i s 0) = word e) :
    place k (ix4 i s 0 0) = word e := by
  have h : place k (ix4 i s 0 0) = Scalar.select (IntOp.cmpi .slt (k (ix3 i s 0)) 0#32) (IntOp.addi (k (ix3 i s 0)) 64#32) (k (ix3 i s 0)) := by
    pointwise [place]
  rw [h, hk]
  have h0 : ¬ (word e).toInt < (0#32).toInt := by
    rw [toInt_word]
    show ¬ ((e.val : ℤ) < 0)
    omega
  simp only [IntOp.cmpi, BitVec.slt, decide_eq_false h0]
  rfl

/-- It lies in the range. -/
theorem inRange_apply (k : IVec S4x4096x1x1 32) (i : Fin 4) (s : Fin 4096) (e : Fin 64) (hk : k (ix4 i s 0 0) = word e) :
    inRange k (ix3 i s 0) = 1#1 := by
  have h : inRange k (ix3 i s 0) = Finset.univ.fold IntOp.andi (1#1) (fun x : Fin 1 => IntOp.andi (IntOp.cmpi .sge (k (ix4 i s 0 x)) 0#32)
      (IntOp.cmpi .sle (k (ix4 i s 0 x)) 63#32)) := by
    pointwise [inRange]
  rw [h, Finset.univ_unique, Finset.fold_singleton]
  show IntOp.andi (IntOp.andi (IntOp.cmpi .sge (k (ix4 i s 0 0)) 0#32) (IntOp.cmpi .sle (k (ix4 i s 0 0)) 63#32)) 1#1 = 1#1
  rw [hk]
  have h0 : (0#32).toInt ≤ (word e).toInt := by
    rw [toInt_word]
    show (0 : ℤ) ≤ e.val
    omega
  have h1 : (word e).toInt ≤ (63#32).toInt := by
    have := e.isLt
    rw [toInt_word]
    show (e.val : ℤ) ≤ 63
    omega
  simp only [IntOp.cmpi, BitVec.sle, decide_eq_true h0, decide_eq_true h1]
  rfl

/-- So the look-up gives the table's value at that expert. -/
theorem picked_apply (p : FVec Ideal S4x4096x64 .f32) (k : IVec S4x4096x1 32) (i : Fin 4) (s : Fin 4096) (e : Fin 64) (hk : k (ix3 i s 0) = word e) :
    picked p k (ix3 i s 0) = p (ix3 i s e) := by
  have h : picked p k (ix3 i s 0) = Scalar.select (inRange (place k) (ix3 i s 0))
      (Host.gather gather_S4x4096x64_S4x4096x1x1_S4x4096x1_n_2_01_01_2_3_111 p (place k) (ix3 i s 0)) (Ideal.ofBits .f32 2143289344#32) := by
    pointwise [picked]
  have hp := place_apply k i s e hk
  rw [h, inRange_apply _ i s e hp, gather_apply p _ i s e hp]
  exact if_pos (Eq.refl (1#1))

end Cert.ReferenceIdeal.Stages

end
-- ==== Proof.Value.Fiber.lean ====
/-
  The reference's chosen expert of a token: the arg-max folds the pairs of its logits with their experts, and so gives the
  first greatest logit's expert.
-/
module

public import proofs.«01_k».proof.Proof.Value.Reference
public import proofs.«01_k».proof.Proof.Value.Choice
public import proofs.«01_k».proof.Proof.Value.Words
public import Idealize.ShloMosaic.Lib.Pointwise

@[expose] public section

set_option maxRecDepth 16384

noncomputable section

namespace Cert.ReferenceIdeal.Stages

open Cert.ReferenceIdeal Cert.ReferenceIdeal.Gen
open Idealize.ShloMosaic
open Choice (First word)
open Words (ofBits_negInf)

variable (l : FVec Ideal S4x4096x64 .f32)

/-- The logits of one token. -/
def tokenLogits (i : Fin 4) (s : Fin 4096) (e : Fin 64) : EReal := l (ix3 i s e)

/-! ## The chosen expert -/

/-- The pairs that the arg-max of a token folds: its logits with their experts. -/
theorem mem_fiber (i : Fin 4) (s : Fin 4096) (p : EReal × BitVec 32) :
    p ∈ Host.argReduceFiber l (iotaInDim S4x4096x64 32 2) reducesTo_S4x4096x64_S4x4096_d2 (ix2 i s)
      ↔ ∃ e, p = (tokenLogits l i s e, word e) := by
  unfold Host.argReduceFiber
  rw [List.mem_map]
  constructor
  · rintro ⟨n, hn, rfl⟩
    have hd : reducesTo_S4x4096x64_S4x4096_d2.drop (S4x4096x64.rowMajor.symm n) = ix2 i s := of_decide_eq_true (List.mem_filter.1 hn).2
    generalize S4x4096x64.rowMajor.symm n = y at hd ⊢
    obtain ⟨a, b, e, rfl⟩ : ∃ a b e, y = ix3 a b e := ⟨y 0, y 1, y 2, eq_ix3 y⟩
    have h0 : i.val = a.val := (congrArg (fun j : S4x4096.Idx => (j 0).val) hd).symm.trans
      (reducesTo_S4x4096x64_S4x4096_d2.drop_apply_val_of_eq (ix3 a b e) 0 0)
    have h1 : s.val = b.val := (congrArg (fun j : S4x4096.Idx => (j 1).val) hd).symm.trans
      (reducesTo_S4x4096x64_S4x4096_d2.drop_apply_val_of_eq (ix3 a b e) 1 1)
    obtain rfl := Fin.ext h0
    obtain rfl := Fin.ext h1
    exact ⟨e, rfl⟩
  · rintro ⟨e, rfl⟩
    refine ⟨S4x4096x64.rowMajor (ix3 i s e), List.mem_filter.2 ⟨List.mem_finRange _, decide_eq_true ?_⟩, ?_⟩
    · rw [Equiv.symm_apply_apply]
      funext a
      match a with
      | ⟨0, _⟩ => exact Fin.ext (reducesTo_S4x4096x64_S4x4096_d2.drop_apply_val_of_eq (ix3 i s e) 0 0)
      | ⟨1, _⟩ => exact Fin.ext (reducesTo_S4x4096x64_S4x4096_d2.drop_apply_val_of_eq (ix3 i s e) 1 1)
    · rw [Equiv.symm_apply_apply]
      rfl

/-- Where no logit of a token is −∞, its chosen expert is that of the first greatest logit. -/
theorem chosen_first (i : Fin 4) (s : Fin 4096) (h : ∀ e, ⊥ < tokenLogits l i s e) :
    ∃ e, First (tokenLogits l i s) e ∧ chosen l (ix2 i s) = word e := by
  obtain ⟨e, he, hf⟩ := Choice.fold_first h (Host.argReduceFiber l (iotaInDim S4x4096x64 32 2) reducesTo_S4x4096x64_S4x4096_d2 (ix2 i s))
    (mem_fiber l i s)
  refine ⟨e, he, Eq.trans ?_ hf⟩
  unfold chosen
  rw [Ideal.argReduce_eq_reduce2, Host.reduce2_eq_foldl_fiber, ← ofBits_negInf]
  rfl

end Cert.ReferenceIdeal.Stages

end
-- ==== Proof.Value.Tokens.lean ====
/-
  The reference's stages at one token: its logits, the softmax at an expert, and the probability as
  the softmax at the chosen expert.
-/
module

public import proofs.«01_k».proof.Proof.Value.Reference
public import proofs.«01_k».proof.Proof.Value.Fetch
public import proofs.«01_k».proof.Proof.Value.Fiber
public import Idealize.ShloMosaic.Lib.Pointwise

@[expose] public section

set_option maxRecDepth 16384

noncomputable section

namespace Cert.ReferenceIdeal.Stages

open Cert.ReferenceIdeal Cert.ReferenceIdeal.Gen
open Idealize.ShloMosaic
open Choice (word)
open Words (ofBits_negInf)

/-- A logit: the token's product with the expert's weights, plus the expert's bias. -/
theorem logits_apply (x : FVec Ideal S4x4096x4096 .f32) (w : FVec Ideal S64x4096 .f32) (b : FVec Ideal S64 .f32) (i : Fin 4) (s : Fin 4096) (e : Fin 64) :
    logits x w b (ix3 i s e) = (∑ k : Fin 4096, x (ix3 i s k) * w (ix2 e k)) + b (ix1 e) := by
  pointwise [logits]

variable (l : FVec Ideal S4x4096x64 .f32)

/-- The softmax of a token at an expert. -/
theorem soft_apply (i : Fin 4) (s : Fin 4096) (e : Fin 64) : soft l (ix3 i s e)
    = Ideal.div (Ideal.exp (tokenLogits l i s e - max ⊥ (Finset.univ.fold max ⊥ (tokenLogits l i s))))
        (∑ k : Fin 64, Ideal.exp (tokenLogits l i s k - max ⊥ (Finset.univ.fold max ⊥ (tokenLogits l i s)))) := by
  rw [← ofBits_negInf]
  unfold tokenLogits
  pointwise [soft, weights, greatest]

/-! ## The chosen expert's probability -/

/-- The probability is the softmax at the chosen expert. -/
theorem prob_apply (i : Fin 4) (s : Fin 4096) (e : Fin 64) (he : chosen l (ix2 i s) = word e) : prob l (ix2 i s) = soft l (ix3 i s e) := by
  have h : prob l (ix2 i s) = picked (soft l) (broadcastInDim S4x4096x1 ![0, 1] bcast_S4x4096_S4x4096x1_0_1 (chosen l)) (ix3 i s 0) := by
    pointwise [prob]
  rw [h]
  refine picked_apply _ _ i s e (Eq.trans ?_ he)
  pointwise

end Cert.ReferenceIdeal.Stages

end
-- ==== Proof.Value.Finite.lean ====
/-
  What the precondition gives: every element of the three arguments is a real number, and so is every logit.
-/
module

public import proofs.«01_k».proof.Pre_finite_inputs
public import proofs.«01_k».proof.Proof.Value.Words
public import Idealize.ShloMosaic.PureOps.Ideal
public import Idealize.ShloMosaic.PureOps.Ideal.Laws
public import Idealize.ShloMosaic.Lib.Pointwise

@[expose] public section

set_option maxRecDepth 16384

noncomputable section

namespace Finite

open Idealize.ShloMosaic
open Cert.Pre_finite_inputs (S4x4096x4096 S64x4096 S64 S_)

/-- The shape conditions that the precondition states. -/
instance preFacts : Cert.Pre_finite_inputs.Facts where
  bcast_S_S4x4096x4096 := by decide
  bcast_S_S64x4096 := by decide
  bcast_S_S64 := by decide

/-- A real number among the extended reals. -/
def IsReal (v : EReal) : Prop := ∃ r : ℝ, v = r

theorem IsReal.ne_bot {v : EReal} (h : IsReal v) : v ≠ ⊥ := by obtain ⟨r, rfl⟩ := h; exact EReal.coe_ne_bot r
theorem IsReal.ne_top {v : EReal} (h : IsReal v) : v ≠ ⊤ := by obtain ⟨r, rfl⟩ := h; exact EReal.coe_ne_top r
theorem IsReal.add {v w : EReal} (h : IsReal v) (h' : IsReal w) : IsReal (v + w) := by
  obtain ⟨r, rfl⟩ := h; obtain ⟨r', rfl⟩ := h'; exact ⟨r + r', (EReal.coe_add r r').symm⟩
theorem IsReal.mul {v w : EReal} (h : IsReal v) (h' : IsReal w) : IsReal (v * w) := by
  obtain ⟨r, rfl⟩ := h; obtain ⟨r', rfl⟩ := h'; exact ⟨r * r', (EReal.coe_mul r r').symm⟩
theorem IsReal.sum {n : ℕ} {f : Fin n → EReal} (h : ∀ k, IsReal (f k)) : IsReal (∑ k, f k) :=
  Finset.sum_induction f IsReal (fun _ _ => IsReal.add) ⟨0, EReal.coe_zero.symm⟩ fun k _ => h k

/-- A value whose magnitude compares below +∞ is real. -/
theorem isReal_of_olt {v : EReal} (h : Ideal.cmp .olt (max v (-v)) (Ideal.ofBits .f32 0x7F800000#32) = 1#1) : IsReal v := by
  rw [Words.ofBits_posInf] at h
  have hlt : max v (-v) < ⊤ := by
    by_contra hn
    simp [Ideal.cmp, hn] at h
  induction v using EReal.rec with
  | bot => simp at hlt
  | coe r => exact ⟨r, rfl⟩
  | top => simp at hlt

variable (x : FVec Ideal S4x4096x4096 .f32) (w : FVec Ideal S64x4096 .f32) (b : FVec Ideal S64 .f32)

/-- Under the precondition the elements of the three arguments are real. -/
theorem x_real (h : (Cert.Pre_finite_inputs.fn x w b).1 = fun _ => 1#1) (j : S4x4096x4096.Idx) : IsReal (x j) :=
  isReal_of_olt (congrFun h j)
theorem w_real (h : (Cert.Pre_finite_inputs.fn x w b).2.1 = fun _ => 1#1) (j : S64x4096.Idx) : IsReal (w j) :=
  isReal_of_olt (congrFun h j)
theorem b_real (h : (Cert.Pre_finite_inputs.fn x w b).2.2 = fun _ => 1#1) (j : S64.Idx) : IsReal (b j) :=
  isReal_of_olt (congrFun h j)

/-- And so is every logit. -/
theorem logit_real (h : (Cert.Pre_finite_inputs.fn x w b).1 = (fun _ => 1#1) ∧ (Cert.Pre_finite_inputs.fn x w b).2.1 = (fun _ => 1#1)
      ∧ (Cert.Pre_finite_inputs.fn x w b).2.2 = fun _ => 1#1) (i : Fin 4) (s : Fin 4096) (e : Fin 64) :
    IsReal ((∑ k : Fin 4096, x (ix3 i s k) * w (ix2 e k)) + b (ix1 e)) :=
  (IsReal.sum fun k => (x_real x w b h.1 _).mul (w_real x w b h.2.1 _)).add (b_real x w b h.2.2 _)

end Finite

end
-- ==== Proof.Value.Equation.lean ====
/-
  The equation: on real inputs the kernel's two arrays are the reference's. At each token the two have the same logits;
  both choose the first greatest one; and the softmax there is `exp 0` over the sum of exponentials, which is the one over
  that sum that the kernel computes.
-/
module

public import proofs.«01_k».proof.Proof.Value.Arrays
public import proofs.«01_k».proof.Proof.Value.Tokens
public import proofs.«01_k».proof.Proof.Value.Finite

@[expose] public section

set_option maxRecDepth 16384

noncomputable section

namespace Equation

open Idealize.ShloMosaic Idealize.SL.Sem
open Idealize.ShloMosaic.TcCoe
open Choice (First word)
open Cert.KernelIdeal (S4x4096 S32x1x512 nD τ sig)
open Cert.KernelIdeal.Gen
open Cert.KernelIdeal.Rows

variable (m : (ℓ : Loc nD τ sig) → Buf (Elt Ideal) ℓ) (c : Dev nD)

/-- The arguments are finite. -/
abbrev FiniteArgs : Prop :=
  (Cert.Pre_finite_inputs.fn (xArg m c) (wArg m c) (bArg m c)).1 = (fun _ => 1#1)
  ∧ (Cert.Pre_finite_inputs.fn (xArg m c) (wArg m c) (bArg m c)).2.1 = (fun _ => 1#1)
  ∧ (Cert.Pre_finite_inputs.fn (xArg m c) (wArg m c) (bArg m c)).2.2 = fun _ => 1#1

/-- The reference's logits of the kernel's arguments. -/
abbrev refLogits : FVec Ideal Cert.ReferenceIdeal.S4x4096x64 .f32 := Cert.ReferenceIdeal.Stages.logits (xArg m c) (wArg m c) (bArg m c)

variable (i : Fin 4) (s : Fin 4096)

/-- The logits of a token on both sides. -/
theorem logits_eq : rowLogits (rows c (xArr m c) (tokenBlock i s)) (wtArr m c) (bArr m c) (tokenRow i s)
    = Cert.ReferenceIdeal.Stages.tokenLogits (refLogits m c) i s := by
  funext e
  rw [rowLogits_apply]
  exact (Cert.ReferenceIdeal.Stages.logits_apply _ _ _ i s e).symm

/-- On finite arguments they are real. -/
theorem token_real (h : FiniteArgs m c) (e : Fin 64) : Finite.IsReal (Cert.ReferenceIdeal.Stages.tokenLogits (refLogits m c) i s e) := by
  obtain ⟨r, hr⟩ := Finite.logit_real _ _ _ h i s e
  exact ⟨r, (Cert.ReferenceIdeal.Stages.logits_apply (xArg m c) (wArg m c) (bArg m c) i s e).trans hr⟩

/-- Both results at a token. -/
theorem token_eq (h : FiniteArgs m c) :
    shapeCast S4x4096 (maskArr m c) shapeCasts_S32x1x512_S4x4096 (ix2 i s) = Cert.ReferenceIdeal.Stages.chosen (refLogits m c) (ix2 i s)
    ∧ shapeCast S4x4096 (probArr m c) shapeCasts_S32x1x512_S4x4096 (ix2 i s) = Cert.ReferenceIdeal.Stages.prob (refLogits m c) (ix2 i s) := by
  have hr := token_real m c i s h
  obtain ⟨e, he, hc⟩ := Cert.ReferenceIdeal.Stages.chosen_first (refLogits m c) i s fun k => bot_lt_iff_ne_bot.2 (hr k).ne_bot
  constructor
  · rw [mask_apply, maskOf_apply, logits_eq, hc]
    exact he.min_eq
  · rw [prob_apply, probOf_apply, logits_eq, Cert.ReferenceIdeal.Stages.prob_apply _ i s e hc, Cert.ReferenceIdeal.Stages.soft_apply,
      he.max_eq, max_eq_right bot_le, First.weight e (hr e).ne_bot (hr e).ne_top]

/-- The chosen experts of all tokens, and below their probabilities. -/
theorem mask_eq (h : FiniteArgs m c) : shapeCast S4x4096 (maskArr m c) shapeCasts_S32x1x512_S4x4096 = Cert.ReferenceIdeal.Stages.chosen (refLogits m c) := by
  funext j
  rw [eq_ix2 j]
  exact (token_eq m c (j 0) (j 1) h).1
theorem prob_eq (h : FiniteArgs m c) : shapeCast S4x4096 (probArr m c) shapeCasts_S32x1x512_S4x4096 = Cert.ReferenceIdeal.Stages.prob (refLogits m c) := by
  funext j
  rw [eq_ix2 j]
  exact (token_eq m c (j 0) (j 1) h).2

end Equation

end
-- ==== Proof.lean ====
/-
  The claims, assembled: each program's run, read as the claim asks.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bits.Result
public import proofs.«01_k».proof.Proof.Ideal.Result
public import proofs.«01_k».proof.Proof.Value.Equation

@[expose] public section

noncomputable section

namespace Cert.Proof

open Idealize.ShloMosaic Idealize.SL.Sem

/-- The kernel as compiled ends, its arguments as they were, its semaphores at zero. -/
theorem frame_kernel : Cert.quiescent_Kernel := fun m ρ _ =>
  (θ_run Cert.Kernel.defs _ _).mono (fun _ h => ⟨fun c => (h.1 c).2, h.2⟩) (Cert.Kernel.Rows.run_main (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.KernelIdeal.Rows.run_main (F := Ideal) m ρ)

/-- So does the reference. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Stages.run m ρ)

/-- On finite arguments kernel and reference end with equal results. -/
theorem values : Cert.algebraic_KernelIdeal_ReferenceIdeal_pre_finite_inputs := fun m ρ m' ρ' hpre hagree => by
  have hl : ∀ c, Cert.ReferenceIdeal.Stages.logitsAt m' c = Equation.refLogits m c := fun c => by
    show Cert.ReferenceIdeal.Stages.logits _ _ _ = _
    rw [(hagree c).1, (hagree c).2.1, (hagree c).2.2]
  refine ⟨fun c => Cert.ReferenceIdeal.Stages.chosen (Equation.refLogits m c), fun c => Cert.ReferenceIdeal.Stages.prob (Equation.refLogits m c),
    fun _ => constant (F := Ideal) Cert.KernelIdeal.S_ .f32 0x00000000#32, ?_, ?_⟩
  · refine (θ_run Cert.KernelIdeal.defs _ _).mono (fun r h c => ?_) (Cert.KernelIdeal.Rows.run_main (F := Ideal) m ρ)
    obtain ⟨⟨h0, h1, h2⟩, ha⟩ := h.1 c
    exact ⟨h0.trans (Equation.mask_eq m c (hpre c)), h1.trans (Equation.prob_eq m c (hpre c)), h2, ha⟩
  · refine (θ_run Cert.ReferenceIdeal.defs _ _).mono (fun r h c => ?_) (Cert.ReferenceIdeal.Stages.run m' ρ')
    obtain ⟨h0, h1, h2, ha⟩ := h c
    exact ⟨h0.trans (congrArg _ (hl c)), h1.trans (congrArg _ (hl c)), h2, ha⟩

theorem claim : Cert.Claim :=
  ⟨Cert.Kernel.Gen.facts, Cert.KernelIdeal.Gen.facts, Cert.ReferenceIdeal.Gen.facts, Finite.preFacts, frame_kernel, frame_ideal,
    fun m ρ _ => frame_ideal m ρ trivial, frame_reference, fun m ρ _ => frame_reference m ρ trivial, trivial, values⟩

end Cert.Proof

end
